-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gain_and_positions_below_16384 [hPre_finite_gain_and_positions_below_16384 : Cert.Pre_finite_gain_and_positions_below_16384.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gain_and_positions_below_16384.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gain_and_positions_below_16384 [hPre_finite_gain_and_positions_below_16384 : Cert.Pre_finite_gain_and_positions_below_16384.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gain_and_positions_below_16384.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gain_and_positions_below_16384 [hKernelIdeal : Cert.KernelIdeal.Facts] [hPre_finite_gain_and_positions_below_16384 : Cert.Pre_finite_gain_and_positions_below_16384.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gain_and_positions_below_16384 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gain_and_positions_below_16384 [hReferenceIdeal : Cert.ReferenceIdeal.Facts] [hPre_finite_gain_and_positions_below_16384 : Cert.Pre_finite_gain_and_positions_below_16384.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gain_and_positions_below_16384 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_gain_and_positions_below_16384 [hKernelIdeal : Cert.KernelIdeal.Facts] [hReferenceIdeal : Cert.ReferenceIdeal.Facts] [hPre_finite_gain_and_positions_below_16384 : Cert.Pre_finite_gain_and_positions_below_16384.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gain_and_positions_below_16384 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_gain_and_positions_below_16384 : Cert.Pre_finite_gain_and_positions_below_16384.Facts),
    quiescent_Kernel (hKernel := hKernel)
    ∧ quiescent_KernelIdeal (hKernelIdeal := hKernelIdeal)
    ∧ quiescent_KernelIdeal_pre_finite_gain_and_positions_below_16384 (hKernelIdeal := hKernelIdeal) (hPre_finite_gain_and_positions_below_16384 := hPre_finite_gain_and_positions_below_16384)
    ∧ quiescent_ReferenceIdeal (hReferenceIdeal := hReferenceIdeal)
    ∧ quiescent_ReferenceIdeal_pre_finite_gain_and_positions_below_16384 (hReferenceIdeal := hReferenceIdeal) (hPre_finite_gain_and_positions_below_16384 := hPre_finite_gain_and_positions_below_16384)
    ∧ preserves_Kernel_KernelIdeal
    ∧ algebraic_KernelIdeal_ReferenceIdeal_pre_finite_gain_and_positions_below_16384 (hKernelIdeal := hKernelIdeal) (hReferenceIdeal := hReferenceIdeal) (hPre_finite_gain_and_positions_below_16384 := hPre_finite_gain_and_positions_below_16384)
-- ==== Pre_finite_gain_and_positions_below_16384.lean ====
abbrev S1x8192x3072 : Shape := ⟨3, ![1, 8192, 3072]⟩
abbrev S3072 : Shape := ⟨1, ![3072]⟩
abbrev S3072x1152 : Shape := ⟨2, ![3072, 1152]⟩
abbrev S1152 : Shape := ⟨1, ![1152]⟩
abbrev S1x8192 : Shape := ⟨2, ![1, 8192]⟩
abbrev S_ : Shape := ⟨0, ![]⟩

class Facts : Prop where
  bcast_S_S3072 : S_.BroadcastsInDim S3072 (![] : Fin 0 → Fin S3072.rank)
  reducesTo_S3072_S_d0 : S3072.ReducesTo [0] S_
  h_S_ : 0 < S_.numel
  bcast_S_S1x8192 : S_.BroadcastsInDim S1x8192 (![] : Fin 0 → Fin S1x8192.rank)
  reducesTo_S1x8192_S_d0_1 : S1x8192.ReducesTo [0, 1] S_

variable [Facts]

def fn {F : FTy → Type} [FloatOps F] (main_arg0 : FVec F S1x8192x3072 .bf16) (main_arg1 : FVec F S3072 .f32) (main_arg2 : FVec F S3072x1152 .fp8e4m3) (main_arg3 : FVec F S1152 .f32) (main_arg4 : IVec S1x8192 32) : IVec S_ 1 :=
  let main_v0 : FVec F S3072 .f32 := Host.absf main_arg1
  let main_cst : FVec F S_ .f32 := constant S_ .f32 0x7F7FFFFF#32
  let main_v1 : FVec F S3072 .f32 := broadcastInDim S3072 ![] bcast_S_S3072 main_cst
  let main_v2 : IVec S3072 1 := cmpf .ole main_v0 main_v1
  let main_c : IVec S_ 1 := constantI S_ 1 1#1
  let main_v3 : IVec S_ 1 := (fun x v => Host.reduce IntOp.andi x v reducesTo_S3072_S_d0 h_S_) main_v2 main_c
  let main_c_0 : IVec S_ 32 := constantI S_ 32 0#32
  let main_v4 : IVec S1x8192 32 := broadcastInDim S1x8192 ![] bcast_S_S1x8192 main_c_0
  let main_v5 : IVec S1x8192 1 := cmpi .sge main_arg4 main_v4
  let main_c_1 : IVec S_ 32 := constantI S_ 32 16384#32
  let main_v6 : IVec S1x8192 32 := broadcastInDim S1x8192 ![] bcast_S_S1x8192 main_c_1
  let main_v7 : IVec S1x8192 1 := cmpi .slt main_arg4 main_v6
  let main_v8 : IVec S1x8192 1 := andi main_v5 main_v7
  let main_c_2 : IVec S_ 1 := constantI S_ 1 1#1
  let main_v9 : IVec S_ 1 := (fun x v => Host.reduce IntOp.andi x v reducesTo_S1x8192_S_d0_1 h_S_) main_v8 main_c_2
  let main_v10 : IVec S_ 1 := andi main_v3 main_v9
  main_v10
-- ==== Kernel.lean ====
abbrev S1x8192x3072 : Shape := ⟨3, ![1, 8192, 3072]⟩
abbrev S3072 : Shape := ⟨1, ![3072]⟩
abbrev S3072x1152 : Shape := ⟨2, ![3072, 1152]⟩
abbrev S1152 : Shape := ⟨1, ![1152]⟩
abbrev S1x8192 : Shape := ⟨2, ![1, 8192]⟩
abbrev S8192x3072 : Shape := ⟨2, ![8192, 3072]⟩
abbrev S1x3072 : Shape := ⟨2, ![1, 3072]⟩
abbrev S1x1152 : Shape := ⟨2, ![1, 1152]⟩
abbrev S48x8x8192 : Shape := ⟨3, ![48, 8, 8192]⟩
abbrev S256x3072 : Shape := ⟨2, ![256, 3072]⟩
abbrev S1x256 : Shape := ⟨2, ![1, 256]⟩
abbrev S48x8x256 : Shape := ⟨3, ![48, 8, 256]⟩
abbrev S1152x3072 : Shape := ⟨2, ![1152, 3072]⟩
abbrev S1152x128 : Shape := ⟨2, ![1152, 128]⟩
abbrev S4x48x128 : Shape := ⟨3, ![4, 48, 128]⟩
abbrev S256x128 : Shape := ⟨2, ![256, 128]⟩
abbrev S128x1152 : Shape := ⟨2, ![128, 1152]⟩
abbrev S48x128 : Shape := ⟨2, ![48, 128]⟩
abbrev S1x48x128 : Shape := ⟨3, ![1, 48, 128]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩
abbrev S128x256 : Shape := ⟨2, ![128, 256]⟩
abbrev S8x256 : Shape := ⟨2, ![8, 256]⟩
abbrev S1152x256 : Shape := ⟨2, ![1152, 256]⟩
abbrev S1x128 : Shape := ⟨2, ![1, 128]⟩
abbrev S48x128x1 : Shape := ⟨3, ![48, 128, 1]⟩
abbrev S48x256 : Shape := ⟨2, ![48, 256]⟩
abbrev S6x8x256 : Shape := ⟨3, ![6, 8, 256]⟩
abbrev S384x256 : Shape := ⟨2, ![384, 256]⟩
abbrev S4x96x1x8192 : Shape := ⟨4, ![4, 96, 1, 8192]⟩
abbrev S1x8192x4x96 : Shape := ⟨4, ![1, 8192, 4, 96]⟩
abbrev S1x8192x1 : Shape := ⟨3, ![1, 8192, 1]⟩

abbrev nBuf : Space → Nat
  | .hbm => 21
  | .vmem => 21
  | .smem => 0
  | _ => 0

abbrev bufTy : (tb : Table) → Fin (tcTables nBuf tb) → BufTy
  | .hbm, ⟨0, _⟩ => ⟨S1x8192x3072, .bf16⟩
  | .hbm, ⟨1, _⟩ => ⟨S3072, .f32⟩
  | .hbm, ⟨2, _⟩ => ⟨S3072x1152, .fp8e4m3⟩
  | .hbm, ⟨3, _⟩ => ⟨S1152, .f32⟩
  | .hbm, ⟨4, _⟩ => ⟨S1x8192, .i32⟩
  | .hbm, ⟨5, _⟩ => ⟨S8192x3072, .bf16⟩
  | .hbm, ⟨6, _⟩ => ⟨S1x3072, .f32⟩
  | .hbm, ⟨7, _⟩ => ⟨S1x1152, .f32⟩
  | .hbm, ⟨8, _⟩ => ⟨S48x8x8192, .bf16⟩
  | .hbm, ⟨9, _⟩ => ⟨S48x8x8192, .bf16⟩
  | .hbm, ⟨10, _⟩ => ⟨S48x8x8192, .bf16⟩
  | .hbm, ⟨11, _⟩ => ⟨S8192x3072, .fp8e4m3⟩
  | .hbm, ⟨12, _⟩ => ⟨S1x8192, .f32⟩
  | .hbm, ⟨13, _⟩ => ⟨S4x96x1x8192, .bf16⟩
  | .hbm, ⟨14, _⟩ => ⟨S1x8192x4x96, .bf16⟩
  | .hbm, ⟨15, _⟩ => ⟨S4x96x1x8192, .bf16⟩
  | .hbm, ⟨16, _⟩ => ⟨S1x8192x4x96, .bf16⟩
  | .hbm, ⟨17, _⟩ => ⟨S4x96x1x8192, .bf16⟩
  | .hbm, ⟨18, _⟩ => ⟨S1x8192x4x96, .bf16⟩
  | .hbm, ⟨19, _⟩ => ⟨S1x8192x3072, .fp8e4m3⟩
  | .hbm, ⟨20, _⟩ => ⟨S1x8192x1, .f32⟩
  | .local _ .vmem, ⟨0, _⟩ => ⟨S256x3072, .bf16⟩
  | .local _ .vmem, ⟨1, _⟩ => ⟨S256x3072, .bf16⟩
  | .local _ .vmem, ⟨2, _⟩ => ⟨S1x3072, .f32⟩
  | .local _ .vmem, ⟨3, _⟩ => ⟨S3072x1152, .fp8e4m3⟩
  | .local _ .vmem, ⟨4, _⟩ => ⟨S1x1152, .f32⟩
  | .local _ .vmem, ⟨5, _⟩ => ⟨S1x256, .i32⟩
  | .local _ .vmem, ⟨6, _⟩ => ⟨S1x256, .i32⟩
  | .local _ .vmem, ⟨7, _⟩ => ⟨S48x8x256, .bf16⟩
  | .local _ .vmem, ⟨8, _⟩ => ⟨S48x8x256, .bf16⟩
  | .local _ .vmem, ⟨9, _⟩ => ⟨S48x8x256, .bf16⟩
  | .local _ .vmem, ⟨10, _⟩ => ⟨S48x8x256, .bf16⟩
  | .local _ .vmem, ⟨11, _⟩ => ⟨S48x8x256, .bf16⟩
  | .local _ .vmem, ⟨12, _⟩ => ⟨S48x8x256, .bf16⟩
  | .local _ .vmem, ⟨13, _⟩ => ⟨S256x3072, .fp8e4m3⟩
  | .local _ .vmem, ⟨14, _⟩ => ⟨S256x3072, .fp8e4m3⟩
  | .local _ .vmem, ⟨15, _⟩ => ⟨S1x256, .f32⟩
  | .local _ .vmem, ⟨16, _⟩ => ⟨S1x256, .f32⟩
  | .local _ .vmem, ⟨17, _⟩ => ⟨S1152x3072, .fp8e4m3⟩
  | .local _ .vmem, ⟨18, _⟩ => ⟨S1152x128, .f32⟩
  | .local _ .vmem, ⟨19, _⟩ => ⟨S4x48x128, .f32⟩
  | .local _ .vmem, ⟨20, _⟩ => ⟨S256x128, .f32⟩
  | _, _ => ⟨S1x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x8x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x8x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S48x8x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x8192x3072 : Shape := ⟨3, ![1, 8192, 3072]⟩
abbrev S3072 : Shape := ⟨1, ![3072]⟩
abbrev S3072x1152 : Shape := ⟨2, ![3072, 1152]⟩
abbrev S1152 : Shape := ⟨1, ![1152]⟩
abbrev S1x8192 : Shape := ⟨2, ![1, 8192]⟩
abbrev S_ : Shape := ⟨0, ![]⟩
abbrev S1x8192x1 : Shape := ⟨3, ![1, 8192, 1]⟩
abbrev S1x1x3072 : Shape := ⟨3, ![1, 1, 3072]⟩
abbrev S8192x3072 : Shape := ⟨2, ![8192, 3072]⟩
abbrev S8192x1 : Shape := ⟨2, ![8192, 1]⟩
abbrev S8192x1152 : Shape := ⟨2, ![8192, 1152]⟩
abbrev S1x8192x1152 : Shape := ⟨3, ![1, 8192, 1152]⟩
abbrev S1x1x1152 : Shape := ⟨3, ![1, 1, 1152]⟩
abbrev S48 : Shape := ⟨1, ![48]⟩
abbrev S1x1x48 : Shape := ⟨3, ![1, 1, 48]⟩
abbrev S1x8192x48 : Shape := ⟨3, ![1, 8192, 48]⟩
abbrev S1x8192x1x48 : Shape := ⟨4, ![1, 8192, 1, 48]⟩
abbrev S1x8192x384 : Shape := ⟨3, ![1, 8192, 384]⟩
abbrev S1x8192x4x96 : Shape := ⟨4, ![1, 8192, 4, 96]⟩
abbrev S1x8192x4x48 : Shape := ⟨4, ![1, 8192, 4, 48]⟩

abbrev nBuf : Space → Nat
  | .hbm => 124
  | .vmem => 5
  | .smem => 0
  | _ => 0

abbrev bufTy : (tb : Table) → Fin (tcTables nBuf tb) → BufTy
  | .hbm, ⟨0, _⟩ => ⟨S1x8192x3072, .bf16⟩
  | .hbm, ⟨1, _⟩ => ⟨S3072, .f32⟩
  | .hbm, ⟨2, _⟩ => ⟨S3072x1152, .fp8e4m3⟩
  | .hbm, ⟨3, _⟩ => ⟨S1152, .f32⟩
  | .hbm, ⟨4, _⟩ => ⟨S1x8192, .i32⟩
  | .hbm, ⟨5, _⟩ => ⟨S1x8192x3072, .f32⟩
  | .hbm, ⟨6, _⟩ => ⟨S1x8192x3072, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x3072, .f32⟩
  | .hbm, ⟨18, _⟩ => ⟨S1x8192x3072, .f32⟩
  | .hbm, ⟨19, _⟩ => ⟨S1x1x3072, .f32⟩
  | .hbm, ⟨20, _⟩ => ⟨S1x8192x3072, .f32⟩
  | .hbm, ⟨21, _⟩ => ⟨S1x8192x3072, .f32⟩
  | .hbm, ⟨22, _⟩ => ⟨S1x8192x3072, .f32⟩
  | .hbm, ⟨23, _⟩ => ⟨S_, .f32⟩
  | .hbm, ⟨24, _⟩ => ⟨S1x8192, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S_, .f32⟩
  | .hbm, ⟨31, _⟩ => ⟨S_, .f32⟩
  | .hbm, ⟨32, _⟩ => ⟨S1x8192x1, .f32⟩
  | .hbm, ⟨33, _⟩ => ⟨S1x8192x1, .f32⟩
  | .hbm, ⟨34, _⟩ => ⟨S1x8192x1, .f32⟩
  | .hbm, ⟨35, _⟩ => ⟨S_, .f32⟩
  | .hbm, ⟨36, _⟩ => ⟨S1x8192x1, .f32⟩
  | .hbm, ⟨37, _⟩ => ⟨S1x8192x1, .f32⟩
  | .hbm, ⟨38, _⟩ => ⟨S_, .f32⟩
  | .hbm, ⟨39, _⟩ => ⟨S1x8192x1, .f32⟩
  | .hbm, ⟨40, _⟩ => ⟨S1x8192x1, .i1⟩
  | .hbm, ⟨41, _⟩ => ⟨S_, .f32⟩
  | .hbm, ⟨42, _⟩ => ⟨S_, .f32⟩
  | .hbm, ⟨43, _⟩ => ⟨S1x8192x1, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S8192x3072, .f32⟩
  | .hbm, ⟨49, _⟩ => ⟨S1x8192x1, .f32⟩
  | .hbm, ⟨50, _⟩ => ⟨S_, .f32⟩
  | .hbm, ⟨51, _⟩ => ⟨S1x8192x1, .f32⟩
  | .hbm, ⟨52, _⟩ => ⟨S1x8192x1, .f32⟩
  | .hbm, ⟨53, _⟩ => ⟨S8192x1, .f32⟩
  | .hbm, ⟨54, _⟩ => ⟨S8192x3072, .fp8e4m3⟩
  | .hbm, ⟨55, _⟩ => ⟨S8192x1152, .f32⟩
  | .hbm, ⟨56, _⟩ => ⟨S1x8192x3072, .fp8e4m3⟩
  | .hbm, ⟨57, _⟩ => ⟨S1x8192x1152, .f32⟩
  | .hbm, ⟨58, _⟩ => ⟨S1x8192x1152, .f32⟩
  | .hbm, ⟨59, _⟩ => ⟨S1x8192x1152, .f32⟩
  | .hbm, ⟨60, _⟩ => ⟨S1x1x1152, .f32⟩
  | .hbm, ⟨61, _⟩ => ⟨S1x8192x1152, .f32⟩
  | .hbm, ⟨62, _⟩ => ⟨S1x8192x1152, .f32⟩
  | .hbm, ⟨63, _⟩ => ⟨S48, .f32⟩
  | .hbm, ⟨64, _⟩ => ⟨S_, .f32⟩
  | .hbm, ⟨65, _⟩ => ⟨S48, .f32⟩
  | .hbm, ⟨66, _⟩ => ⟨S48, .f32⟩
  | .hbm, ⟨67, _⟩ => ⟨S_, .f32⟩
  | .hbm, ⟨68, _⟩ => ⟨S48, .f32⟩
  | .hbm, ⟨69, _⟩ => ⟨S48, .f32⟩
  | .hbm, ⟨70, _⟩ => ⟨S_, .f32⟩
  | .hbm, ⟨71, _⟩ => ⟨S48, .f32⟩
  | .hbm, ⟨72, _⟩ => ⟨S48, .f32⟩
  | .hbm, ⟨73, _⟩ => ⟨S_, .f32⟩
  | .hbm, ⟨74, _⟩ => ⟨S48, .f32⟩
  | .hbm, ⟨75, _⟩ => ⟨S48, .f32⟩
  | .hbm, ⟨76, _⟩ => ⟨S_, .f32⟩
  | .hbm, ⟨77, _⟩ => ⟨S48, .f32⟩
  | .hbm, ⟨78, _⟩ => ⟨S48, .f32⟩
  | .hbm, ⟨79, _⟩ => ⟨S1x8192, .f32⟩
  | .hbm, ⟨80, _⟩ => ⟨S1x8192x1, .f32⟩
  | .hbm, ⟨81, _⟩ => ⟨S1x1x48, .f32⟩
  | .hbm, ⟨82, _⟩ => ⟨S1x8192x48, .f32⟩
  | .hbm, ⟨83, _⟩ => ⟨S1x8192x48, .f32⟩
  | .hbm, ⟨84, _⟩ => ⟨S1x8192x48, .f32⟩
  | .hbm, ⟨85, _⟩ => ⟨S1x8192x48, .f32⟩
  | .hbm, ⟨86, _⟩ => ⟨S1x8192x1x48, .f32⟩
  | .hbm, ⟨87, _⟩ => ⟨S1x8192x48, .f32⟩
  | .hbm, ⟨88, _⟩ => ⟨S1x8192x1x48, .f32⟩
  | .hbm, ⟨89, _⟩ => ⟨S1x8192x384, .f32⟩
  | .hbm, ⟨90, _⟩ => ⟨S1x8192x4x96, .f32⟩
  | .hbm, ⟨91, _⟩ => ⟨S1x8192x4x48, .f32⟩
  | .hbm, ⟨92, _⟩ => ⟨S1x8192x4x48, .f32⟩
  | .hbm, ⟨93, _⟩ => ⟨S1x8192x4x48, .f32⟩
  | .hbm, ⟨94, _⟩ => ⟨S1x8192x4x48, .f32⟩
  | .hbm, ⟨95, _⟩ => ⟨S1x8192x4x48, .f32⟩
  | .hbm, ⟨96, _⟩ => ⟨S1x8192x4x48, .f32⟩
  | .hbm, ⟨97, _⟩ => ⟨S1x8192x4x48, .f32⟩
  | .hbm, ⟨98, _⟩ => ⟨S1x8192x4x48, .f32⟩
  | .hbm, ⟨99, _⟩ => ⟨S1x8192x4x48, .f32⟩
  | .hbm, ⟨100, _⟩ => ⟨S1x8192x4x48, .f32⟩
  | .hbm, ⟨101, _⟩ => ⟨S1x8192x4x48, .f32⟩
  | .hbm, ⟨102, _⟩ => ⟨S1x8192x4x48, .f32⟩
  | .hbm, ⟨103, _⟩ => ⟨S1x8192x4x96, .f32⟩
  | .hbm, ⟨104, _⟩ => ⟨S1x8192x4x96, .bf16⟩
  | .hbm, ⟨105, _⟩ => ⟨S1x8192x384, .f32⟩
  | .hbm, ⟨106, _⟩ => ⟨S1x8192x4x96, .f32⟩
  | .hbm, ⟨107, _⟩ => ⟨S1x8192x4x48, .f32⟩
  | .hbm, ⟨108, _⟩ => ⟨S1x8192x4x48, .f32⟩
  | .hbm, ⟨109, _⟩ => ⟨S1x8192x4x48, .f32⟩
  | .hbm, ⟨110, _⟩ => ⟨S1x8192x4x48, .f32⟩
  | .hbm, ⟨111, _⟩ => ⟨S1x8192x4x48, .f32⟩
  | .hbm, ⟨112, _⟩ => ⟨S1x8192x4x48, .f32⟩
  | .hbm, ⟨113, _⟩ => ⟨S1x8192x4x48, .f32⟩
  | .hbm, ⟨114, _⟩ => ⟨S1x8192x4x48, .f32⟩
  | .hbm, ⟨115, _⟩ => ⟨S1x8192x4x48, .f32⟩
  | .hbm, ⟨116, _⟩ => ⟨S1x8192x4x48, .f32⟩
  | .hbm, ⟨117, _⟩ => ⟨S1x8192x4x48, .f32⟩
  | .hbm, ⟨118, _⟩ => ⟨S1x8192x4x48, .f32⟩
  | .hbm, ⟨119, _⟩ => ⟨S1x8192x4x96, .f32⟩
  | .hbm, ⟨120, _⟩ => ⟨S1x8192x4x96, .bf16⟩
  | .hbm, ⟨121, _⟩ => ⟨S1x8192x384, .f32⟩
  | .hbm, ⟨122, _⟩ => ⟨S1x8192x4x96, .f32⟩
  | .hbm, ⟨123, _⟩ => ⟨S1x8192x4x96, .bf16⟩
  | .local _ .vmem, ⟨0, _⟩ => ⟨S8192x3072, .f32⟩
  | .local _ .vmem, ⟨1, _⟩ => ⟨S8192x1, .f32⟩
  | .local _ .vmem, ⟨2, _⟩ => ⟨S3072x1152, .fp8e4m3⟩
  | .local _ .vmem, ⟨3, _⟩ => ⟨S8192x3072, .fp8e4m3⟩
  | .local _ .vmem, ⟨4, _⟩ => ⟨S8192x1152, .f32⟩
  | _, _ => ⟨S1x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Chunk.lean ====
module
public import proofs.«01_k».proof.Proof.Gen.KernelIdeal.Frame
public import Idealize.ShloMosaic.Lib.Pointwise
public import Idealize.ShloMosaic.Lib.ValueIdx
public import Idealize.ShloMosaic.Lib.Pipeline.Value
@[expose] public section
set_option maxRecDepth 16384
noncomputable section
namespace Cert.KernelIdeal.Chunk
open Cert.KernelIdeal.Gen
open Idealize.ShloMosaic Idealize.ShloMosaic.TcCoe Idealize.ShloMosaic.Tactic
variable {F : FTy → Type} [FloatOps F]

/-- The normalised rows of 32 tokens. -/
def hV (g : Vec F S1x3072 .f32) (x : Vec F S32x3072 .bf16) : FVec F S32x3072 .f32 := k0_pay14 g x
/-- The largest absolute value of each of the rows. -/
def amaxV (h : FVec F S32x3072 .f32) : FVec F S32x1 .f32 :=
  shapeCast S32x1 (multiReduction .maximumf [1] S32 (absf h) 0xFF800000#32 reduces_S32x3072_S32 (.inl rfl) rfl) shapeCasts_S32_S32x1
/-- That over 448. -/
def tV (h : FVec F S32x3072 .f32) : FVec F S32x1 .f32 :=
  mulf (amaxV h) (broadcast S32x1 (Scalar.ofBits .f32 0x3B124925#32))
/-- One step of the search for the exponent field. -/
def stepV {s : Shape} (t : FVec F s .f32) (b : BitVec 32) (e : IVec s 32) : IVec s 32 :=
  select (cmpf .oge t (bitcastToFloat .f32 (addi e (broadcast s b)))) (addi e (broadcast s b)) e
/-- The exponent field of each `t`. -/
def fieldV {s : Shape} (t : FVec F s .f32) : IVec s 32 :=
  stepV t 8388608#32 (stepV t 16777216#32 (stepV t 33554432#32 (stepV t 67108864#32
    (stepV t 134217728#32 (stepV t 268435456#32 (stepV t 536870912#32 (stepV t 1073741824#32 (broadcast s 0#32))))))))
/-- The inverse of the power of two that a field stands for. -/
def invV {s : Shape} (e : IVec s 32) : FVec F s .f32 :=
  bitcastToFloat .f32 (select (ori (cmpi .eq e (broadcast s 0#32)) (cmpi .eq e (broadcast s 2139095040#32)))
    (broadcast s 1065353216#32) (subi (broadcast s 2122317824#32) e))
/-- The power of two that a field stands for. -/
def scaleV {s : Shape} (e : IVec s 32) : FVec F s .f32 :=
  bitcastToFloat .f32 (select (ori (cmpi .eq e (broadcast s 0#32)) (cmpi .eq e (broadcast s 2139095040#32)))
    (broadcast s 1065353216#32) (addi e (broadcast s 8388608#32)))
/-- The scaled and clipped rows as codes. -/
def clipV (h : FVec F S32x3072 .f32) (s : FVec F S32x1 .f32) : FVec F S32x3072 .fp8e4m3 :=
  truncf .fp8e4m3 (minimumf (broadcast S32x3072 (Scalar.ofBits .f32 0x43E00000#32))
    (maximumf (broadcast S32x3072 (Scalar.ofBits .f32 0xC3E00000#32)) (mulf h (broadcastTo S32x3072 s broadcasts_S32x1_S32x3072)))) bitsLt_fp8e4m3_f32
/-- The codes of 32 tokens. -/
def codesV (h : FVec F S32x3072 .f32) : FVec F S32x3072 .fp8e4m3 := clipV h (invV (fieldV (tV h)))
/-- The largest absolute values, over 128 lanes. -/
def lanesV (h : FVec F S32x3072 .f32) : FVec F S32x128 .f32 :=
  shapeCast S32x128 (broadcastTo S32x128 (shapeCast S32x1 (amaxV h) shapeCasts_S32x1_S32x1) broadcasts_S32x1_S32x128) shapeCasts_S32x128_S32x128

variable (g : Vec F S1x3072 .f32) (x : Vec F S32x3072 .bf16)

theorem c0 : k0_pay19 (k0_pay14 g x) (k0_pay16 g x) (k0_pay17 g x) k0_pay18 = codesV (hV g x) := rfl
theorem c1 : k0_pay28 (k0_pay22 (k0_pay13 g) x) (k0_pay24 (k0_pay13 g) x) (k0_pay25 (k0_pay13 g) x) (k0_pay26 (k0_pay13 g) x) (k0_pay27 (k0_pay13 g) x) = codesV (hV g x) := rfl
theorem c2 : k0_pay35 (k0_pay31 (k0_pay13 g) (k0_pay30 x)) (k0_pay33 (k0_pay13 g) (k0_pay30 x)) (k0_pay34 (k0_pay13 g) (k0_pay30 x)) = codesV (hV g x) := rfl
theorem c3 : k0_pay44 (k0_pay39 (k0_pay13 g) (k0_pay37 x) (k0_pay38 x) (FloatOps.ofBits FTy.f32 897988541#32)) (k0_pay41 (k0_pay13 g) (k0_pay37 x) (k0_pay38 x) (FloatOps.ofBits FTy.f32 897988541#32)) (k0_pay42 (k0_pay13 g) (k0_pay37 x) (k0_pay38 x) (FloatOps.ofBits FTy.f32 897988541#32)) k0_pay43 = codesV (hV g x) := rfl
theorem c4 : k0_pay51 (k0_pay46 (k0_pay13 g) x) (k0_pay49 (k0_pay47 (k0_pay13 g) x)) (k0_pay50 (k0_pay47 (k0_pay13 g) x)) 2139095040#32 = codesV (hV g x) := rfl
theorem c5 : k0_pay61 (k0_pay53 (k0_pay13 g) x) (k0_pay58 (k0_pay55 (k0_pay13 g) x) k0_pay56) (k0_pay59 (k0_pay55 (k0_pay13 g) x) k0_pay56) k0_pay60 = codesV (hV g x) := rfl
theorem c6 : k0_pay69 (FloatOps.ofBits FTy.f32 0x43E00000#32) (k0_pay68 (k0_pay63 (k0_pay13 g) x) (k0_pay65 (k0_pay13 g) x) (k0_pay66 (k0_pay13 g) x) k0_pay67) = codesV (hV g x) := rfl
theorem c7 : k0_pay77 (k0_pay71 (k0_pay13 g) x) (k0_pay73 (k0_pay13 g) x) (k0_pay74 (k0_pay13 g) x) (k0_pay75 (k0_pay13 g) x) (k0_pay76 (k0_pay13 g) x) = codesV (hV g x) := rfl
theorem a0 : k0_pay21 (k0_pay20 (k0_pay15 g x)) = lanesV (hV g x) := rfl
theorem a1 : k0_pay29 (k0_pay23 (k0_pay13 g) x) = lanesV (hV g x) := rfl
theorem a2 : k0_pay36 (k0_pay32 (k0_pay13 g) (k0_pay30 x)) = lanesV (hV g x) := rfl
theorem a3 : k0_pay45 (k0_pay40 (k0_pay13 g) (k0_pay37 x) (k0_pay38 x) (FloatOps.ofBits FTy.f32 897988541#32)) = lanesV (hV g x) := rfl
theorem a4 : k0_pay52 (k0_pay48 (k0_pay47 (k0_pay13 g) x)) = lanesV (hV g x) := rfl
theorem a5 : k0_pay62 (k0_pay54 (k0_pay13 g) x) = lanesV (hV g x) := rfl
theorem a6 : k0_pay70 (k0_pay64 (k0_pay13 g) x) = lanesV (hV g x) := rfl
theorem a7 : k0_pay79 (k0_pay78 (k0_pay72 (k0_pay13 g) x)) = lanesV (hV g x) := rfl

/-- A load of the whole gain row. -/
theorem ld_gain (X : Vec F S1x3072 .f32) : View.ld X (Rect.unit (s := S1x3072) ![0, 0] ![1, 3072] inb_S1x3072_S1x3072_0_0) = X :=
  View.ld_unit_zero (S := S1x3072) (by decide) _ X
/-- The codes of a block of 256 tokens, in pieces of 32. -/
def codesB (g : Vec F S1x3072 .f32) (x : Vec F S256x3072 .bf16) : Vec F S256x3072 .fp8e4m3 :=
  View.canon [⟨Rect.unit (s := S256x3072) ![224, 0] S32x3072.size inb_S256x3072_S32x3072_224_0, codesV (hV g (View.ld x (Rect.unit (s := S256x3072) ![224, 0] S32x3072.size inb_S256x3072_S32x3072_224_0)))⟩, ⟨Rect.unit (s := S256x3072) ![192, 0] S32x3072.size inb_S256x3072_S32x3072_192_0, codesV (hV g (View.ld x (Rect.unit (s := S256x3072) ![192, 0] S32x3072.size inb_S256x3072_S32x3072_192_0)))⟩, ⟨Rect.unit (s := S256x3072) ![160, 0] S32x3072.size inb_S256x3072_S32x3072_160_0, codesV (hV g (View.ld x (Rect.unit (s := S256x3072) ![160, 0] S32x3072.size inb_S256x3072_S32x3072_160_0)))⟩, ⟨Rect.unit (s := S256x3072) ![128, 0] S32x3072.size inb_S256x3072_S32x3072_128_0, codesV (hV g (View.ld x (Rect.unit (s := S256x3072) ![128, 0] S32x3072.size inb_S256x3072_S32x3072_128_0)))⟩, ⟨Rect.unit (s := S256x3072) ![96, 0] S32x3072.size inb_S256x3072_S32x3072_96_0, codesV (hV g (View.ld x (Rect.unit (s := S256x3072) ![96, 0] S32x3072.size inb_S256x3072_S32x3072_96_0)))⟩, ⟨Rect.unit (s := S256x3072) ![64, 0] S32x3072.size inb_S256x3072_S32x3072_64_0, codesV (hV g (View.ld x (Rect.unit (s := S256x3072) ![64, 0] S32x3072.size inb_S256x3072_S32x3072_64_0)))⟩, ⟨Rect.unit (s := S256x3072) ![32, 0] S32x3072.size inb_S256x3072_S32x3072_32_0, codesV (hV g (View.ld x (Rect.unit (s := S256x3072) ![32, 0] S32x3072.size inb_S256x3072_S32x3072_32_0)))⟩, ⟨Rect.unit (s := S256x3072) ![0, 0] S32x3072.size inb_S256x3072_S32x3072_0_0, codesV (hV g (View.ld x (Rect.unit (s := S256x3072) ![0, 0] S32x3072.size inb_S256x3072_S32x3072_0_0)))⟩]
/-- The largest absolute values of a block of 256 tokens, over 128 lanes. -/
def amaxB (g : Vec F S1x3072 .f32) (x : Vec F S256x3072 .bf16) : Vec F S256x128 .f32 :=
  View.canon [⟨Rect.unit (s := S256x128) ![224, 0] S32x128.size inb_S256x128_S32x128_224_0, lanesV (hV g (View.ld x (Rect.unit (s := S256x3072) ![224, 0] S32x3072.size inb_S256x3072_S32x3072_224_0)))⟩, ⟨Rect.unit (s := S256x128) ![192, 0] S32x128.size inb_S256x128_S32x128_192_0, lanesV (hV g (View.ld x (Rect.unit (s := S256x3072) ![192, 0] S32x3072.size inb_S256x3072_S32x3072_192_0)))⟩, ⟨Rect.unit (s := S256x128) ![160, 0] S32x128.size inb_S256x128_S32x128_160_0, lanesV (hV g (View.ld x (Rect.unit (s := S256x3072) ![160, 0] S32x3072.size inb_S256x3072_S32x3072_160_0)))⟩, ⟨Rect.unit (s := S256x128) ![128, 0] S32x128.size inb_S256x128_S32x128_128_0, lanesV (hV g (View.ld x (Rect.unit (s := S256x3072) ![128, 0] S32x3072.size inb_S256x3072_S32x3072_128_0)))⟩, ⟨Rect.unit (s := S256x128) ![96, 0] S32x128.size inb_S256x128_S32x128_96_0, lanesV (hV g (View.ld x (Rect.unit (s := S256x3072) ![96, 0] S32x3072.size inb_S256x3072_S32x3072_96_0)))⟩, ⟨Rect.unit (s := S256x128) ![64, 0] S32x128.size inb_S256x128_S32x128_64_0, lanesV (hV g (View.ld x (Rect.unit (s := S256x3072) ![64, 0] S32x3072.size inb_S256x3072_S32x3072_64_0)))⟩, ⟨Rect.unit (s := S256x128) ![32, 0] S32x128.size inb_S256x128_S32x128_32_0, lanesV (hV g (View.ld x (Rect.unit (s := S256x3072) ![32, 0] S32x3072.size inb_S256x3072_S32x3072_32_0)))⟩, ⟨Rect.unit (s := S256x128) ![0, 0] S32x128.size inb_S256x128_S32x128_0_0, lanesV (hV g (View.ld x (Rect.unit (s := S256x3072) ![0, 0] S32x3072.size inb_S256x3072_S32x3072_0_0)))⟩]
/-- The powers of two of a block, a row of 256 repeated 8 times. -/
def scale8 (a : Vec F S256x128 .f32) : FVec F S8x256 .f32 := scaleV (fieldV (k0_pay80 a))
theorem scale8_eq (a : Vec F S256x128 .f32) : k0_pay82 (k0_pay80 a) (k0_pay81 a) 8388608#32 = scale8 a := rfl
theorem ld_w (X : Vec F S3072x1152 .fp8e4m3) : View.ld X (Rect.unit (s := S3072x1152) ![0, 0] ![3072, 1152] inb_S3072x1152_S3072x1152_0_0) = X :=
  View.ld_unit_zero (S := S3072x1152) (by decide) _ X
theorem ld_ws (X : Vec F S1x1152 .f32) : View.ld X (Rect.unit (s := S1x1152) ![0, 0] ![1, 1152] inb_S1x1152_S1x1152_0_0) = X :=
  View.ld_unit_zero (S := S1x1152) (by decide) _ X
theorem ld_amax (X : Vec F S256x128 .f32) : View.ld X (Rect.unit (s := S256x128) ![0, 0] ![256, 128] inb_S256x128_S256x128_0_0) = X :=
  View.ld_unit_zero (S := S256x128) (by decide) _ X
theorem ld_wt (X : Vec F S1152x3072 .fp8e4m3) : View.ld X (Rect.unit (s := S1152x3072) ![0, 0] ![1152, 3072] inb_S1152x3072_S1152x3072_0_0) = X :=
  View.ld_unit_zero (S := S1152x3072) (by decide) _ X
theorem ld_codes (X : Vec F S256x3072 .fp8e4m3) : View.ld X (Rect.unit (s := S256x3072) ![0, 0] ![256, 3072] inb_S256x3072_S256x3072_0_0) = X :=
  View.ld_unit_zero (S := S256x3072) (by decide) _ X
theorem ld_wsc (X : Vec F S1152x128 .f32) : View.ld X (Rect.unit (s := S1152x128) ![0, 0] ![1152, 128] inb_S1152x128_S1152x128_0_0) = X :=
  View.ld_unit_zero (S := S1152x128) (by decide) _ X
theorem canon_wt (X : Vec F S1152x3072 .fp8e4m3) : View.canon [(⟨Rect.unit (s := S1152x3072) ![0, 0] ![1152, 3072] inb_S1152x3072_S1152x3072_0_0, X⟩ : View.Piece (Elt F) S1152x3072 .fp8e4m3)] = X :=
  View.canon_unit_zero (S := S1152x3072) (by decide) _ X
theorem canon_wsc (X : Vec F S1152x128 .f32) : View.canon [(⟨Rect.unit (s := S1152x128) ![0, 0] ![1152, 128] inb_S1152x128_S1152x128_0_0, X⟩ : View.Piece (Elt F) S1152x128 .f32)] = X :=
  View.canon_unit_zero (S := S1152x128) (by decide) _ X
theorem canon_sc (X : Vec F S1x256 .f32) : View.canon [(⟨Rect.unit (s := S1x256) ![0, 0] ![1, 256] inb_S1x256_S1x256_0_0, X⟩ : View.Piece (Elt F) S1x256 .f32)] = X :=
  View.canon_unit_zero (S := S1x256) (by decide) _ X
theorem canon_v (X : Vec F S48x8x256 .bf16) : View.canon [(⟨Rect.unit (s := S48x8x256) ![0, 0, 0] ![48, 8, 256] inb_S48x8x256_S48x8x256_0_0_0, X⟩ : View.Piece (Elt F) S48x8x256 .bf16)] = X :=
  View.canon_unit_zero (S := S48x8x256) (by decide) _ X
theorem readCov_ld {sig : RefSig} {κ : Kind} {sp : Space} {s : Shape} {e : EltTy} (v : View sig κ sp s e) (L : List (View.Piece (Elt F) s e)) (r : Rect s) :
    v.readCov L r.toLoadRect = View.ld (View.canon L) r := View.readCov_eq_canon' v L r.toLoadRect
/-- The tables of cosines and sines of the two digits of a position. -/
def trigT : Vec F S4x48x128 .f32 :=
  View.canon [⟨Rect.unit (s := S4x48x128) ![3, 0, 0] S1x48x128.size inb_S4x48x128_S1x48x128_3_0_0, k0_pay12 k0_pay8⟩,
    ⟨Rect.unit (s := S4x48x128) ![2, 0, 0] S1x48x128.size inb_S4x48x128_S1x48x128_2_0_0, k0_pay11 k0_pay8⟩,
    ⟨Rect.unit (s := S4x48x128) ![1, 0, 0] S1x48x128.size inb_S4x48x128_S1x48x128_1_0_0, k0_pay10⟩,
    ⟨Rect.unit (s := S4x48x128) ![0, 0, 0] S1x48x128.size inb_S4x48x128_S1x48x128_0_0_0, k0_pay9⟩]
theorem trigT_fold : View.canon [(⟨Rect.unit (s := S4x48x128) ![3, 0, 0] ![1, 48, 128] inb_S4x48x128_S1x48x128_3_0_0, k0_pay12 k0_pay8⟩ : View.Piece (Elt F) S4x48x128 .f32),
    ⟨Rect.unit (s := S4x48x128) ![2, 0, 0] ![1, 48, 128] inb_S4x48x128_S1x48x128_2_0_0, k0_pay11 k0_pay8⟩,
    ⟨Rect.unit (s := S4x48x128) ![1, 0, 0] ![1, 48, 128] inb_S4x48x128_S1x48x128_1_0_0, k0_pay10⟩,
    ⟨Rect.unit (s := S4x48x128) ![0, 0, 0] ![1, 48, 128] inb_S4x48x128_S1x48x128_0_0_0, k0_pay9⟩] = trigT := rfl
/-- One of the four tables. -/
def tab0 (T : Vec F S4x48x128 .f32) : Vec F S1x48x128 .f32 := View.ld T (Rect.unit (s := S4x48x128) ![0, 0, 0] ![1, 48, 128] inb_S4x48x128_S1x48x128_0_0_0)
def tab1 (T : Vec F S4x48x128 .f32) : Vec F S1x48x128 .f32 := View.ld T (Rect.unit (s := S4x48x128) ![1, 0, 0] ![1, 48, 128] inb_S4x48x128_S1x48x128_1_0_0)
def tab2 (T : Vec F S4x48x128 .f32) : Vec F S1x48x128 .f32 := View.ld T (Rect.unit (s := S4x48x128) ![2, 0, 0] ![1, 48, 128] inb_S4x48x128_S1x48x128_2_0_0)
def tab3 (T : Vec F S4x48x128 .f32) : Vec F S1x48x128 .f32 := View.ld T (Rect.unit (s := S4x48x128) ![3, 0, 0] ![1, 48, 128] inb_S4x48x128_S1x48x128_3_0_0)
theorem tab0_fold (T : Vec F S4x48x128 .f32) : View.ld T (Rect.unit (s := S4x48x128) ![0, 0, 0] ![1, 48, 128] inb_S4x48x128_S1x48x128_0_0_0) = tab0 T := rfl
theorem tab1_fold (T : Vec F S4x48x128 .f32) : View.ld T (Rect.unit (s := S4x48x128) ![1, 0, 0] ![1, 48, 128] inb_S4x48x128_S1x48x128_1_0_0) = tab1 T := rfl
theorem tab2_fold (T : Vec F S4x48x128 .f32) : View.ld T (Rect.unit (s := S4x48x128) ![2, 0, 0] ![1, 48, 128] inb_S4x48x128_S1x48x128_2_0_0) = tab2 T := rfl
theorem tab3_fold (T : Vec F S4x48x128 .f32) : View.ld T (Rect.unit (s := S4x48x128) ![3, 0, 0] ![1, 48, 128] inb_S4x48x128_S1x48x128_3_0_0) = tab3 T := rfl
/-- The first and the second half of the positions of a block. -/
def pos0 (p : Vec F S1x256 .i32) : Vec F S1x128 .i32 := View.ld p (Rect.unit (s := S1x256) ![0, 0] ![1, 128] inb_S1x256_S1x128_0_0)
def pos1 (p : Vec F S1x256 .i32) : Vec F S1x128 .i32 := View.ld p (Rect.unit (s := S1x256) ![0, 128] ![1, 128] inb_S1x256_S1x128_0_128)
theorem pos0_fold (p : Vec F S1x256 .i32) : View.ld p (Rect.unit (s := S1x256) ![0, 0] ![1, 128] inb_S1x256_S1x128_0_0) = pos0 p := rfl
theorem pos1_fold (p : Vec F S1x256 .i32) : View.ld p (Rect.unit (s := S1x256) ![0, 128] ![1, 128] inb_S1x256_S1x128_0_128) = pos1 p := rfl
theorem amaxB_fold (g : Vec F S1x3072 .f32) (x : Vec F S256x3072 .bf16) : View.canon [(⟨Rect.unit (s := S256x128) ![224, 0] ![32, 128] inb_S256x128_S32x128_224_0, lanesV (hV g (View.ld x (Rect.unit (s := S256x3072) ![224, 0] ![32, 3072] inb_S256x3072_S32x3072_224_0)))⟩ : View.Piece (Elt F) S256x128 .f32), (⟨Rect.unit (s := S256x128) ![192, 0] ![32, 128] inb_S256x128_S32x128_192_0, lanesV (hV g (View.ld x (Rect.unit (s := S256x3072) ![192, 0] ![32, 3072] inb_S256x3072_S32x3072_192_0)))⟩ : View.Piece (Elt F) S256x128 .f32), (⟨Rect.unit (s := S256x128) ![160, 0] ![32, 128] inb_S256x128_S32x128_160_0, lanesV (hV g (View.ld x (Rect.unit (s := S256x3072) ![160, 0] ![32, 3072] inb_S256x3072_S32x3072_160_0)))⟩ : View.Piece (Elt F) S256x128 .f32), (⟨Rect.unit (s := S256x128) ![128, 0] ![32, 128] inb_S256x128_S32x128_128_0, lanesV (hV g (View.ld x (Rect.unit (s := S256x3072) ![128, 0] ![32, 3072] inb_S256x3072_S32x3072_128_0)))⟩ : View.Piece (Elt F) S256x128 .f32), (⟨Rect.unit (s := S256x128) ![96, 0] ![32, 128] inb_S256x128_S32x128_96_0, lanesV (hV g (View.ld x (Rect.unit (s := S256x3072) ![96, 0] ![32, 3072] inb_S256x3072_S32x3072_96_0)))⟩ : View.Piece (Elt F) S256x128 .f32), (⟨Rect.unit (s := S256x128) ![64, 0] ![32, 128] inb_S256x128_S32x128_64_0, lanesV (hV g (View.ld x (Rect.unit (s := S256x3072) ![64, 0] ![32, 3072] inb_S256x3072_S32x3072_64_0)))⟩ : View.Piece (Elt F) S256x128 .f32), (⟨Rect.unit (s := S256x128) ![32, 0] ![32, 128] inb_S256x128_S32x128_32_0, lanesV (hV g (View.ld x (Rect.unit (s := S256x3072) ![32, 0] ![32, 3072] inb_S256x3072_S32x3072_32_0)))⟩ : View.Piece (Elt F) S256x128 .f32), (⟨Rect.unit (s := S256x128) ![0, 0] ![32, 128] inb_S256x128_S32x128_0_0, lanesV (hV g (View.ld x (Rect.unit (s := S256x3072) ![0, 0] ![32, 3072] inb_S256x3072_S32x3072_0_0)))⟩ : View.Piece (Elt F) S256x128 .f32)] = amaxB g x := rfl
theorem codesB_fold (g : Vec F S1x3072 .f32) (x : Vec F S256x3072 .bf16) : View.canon [(⟨Rect.unit (s := S256x3072) ![224, 0] ![32, 3072] inb_S256x3072_S32x3072_224_0, codesV (hV g (View.ld x (Rect.unit (s := S256x3072) ![224, 0] ![32, 3072] inb_S256x3072_S32x3072_224_0)))⟩ : View.Piece (Elt F) S256x3072 .fp8e4m3), (⟨Rect.unit (s := S256x3072) ![192, 0] ![32, 3072] inb_S256x3072_S32x3072_192_0, codesV (hV g (View.ld x (Rect.unit (s := S256x3072) ![192, 0] ![32, 3072] inb_S256x3072_S32x3072_192_0)))⟩ : View.Piece (Elt F) S256x3072 .fp8e4m3), (⟨Rect.unit (s := S256x3072) ![160, 0] ![32, 3072] inb_S256x3072_S32x3072_160_0, codesV (hV g (View.ld x (Rect.unit (s := S256x3072) ![160, 0] ![32, 3072] inb_S256x3072_S32x3072_160_0)))⟩ : View.Piece (Elt F) S256x3072 .fp8e4m3), (⟨Rect.unit (s := S256x3072) ![128, 0] ![32, 3072] inb_S256x3072_S32x3072_128_0, codesV (hV g (View.ld x (Rect.unit (s := S256x3072) ![128, 0] ![32, 3072] inb_S256x3072_S32x3072_128_0)))⟩ : View.Piece (Elt F) S256x3072 .fp8e4m3), (⟨Rect.unit (s := S256x3072) ![96, 0] ![32, 3072] inb_S256x3072_S32x3072_96_0, codesV (hV g (View.ld x (Rect.unit (s := S256x3072) ![96, 0] ![32, 3072] inb_S256x3072_S32x3072_96_0)))⟩ : View.Piece (Elt F) S256x3072 .fp8e4m3), (⟨Rect.unit (s := S256x3072) ![64, 0] ![32, 3072] inb_S256x3072_S32x3072_64_0, codesV (hV g (View.ld x (Rect.unit (s := S256x3072) ![64, 0] ![32, 3072] inb_S256x3072_S32x3072_64_0)))⟩ : View.Piece (Elt F) S256x3072 .fp8e4m3), (⟨Rect.unit (s := S256x3072) ![32, 0] ![32, 3072] inb_S256x3072_S32x3072_32_0, codesV (hV g (View.ld x (Rect.unit (s := S256x3072) ![32, 0] ![32, 3072] inb_S256x3072_S32x3072_32_0)))⟩ : View.Piece (Elt F) S256x3072 .fp8e4m3), (⟨Rect.unit (s := S256x3072) ![0, 0] ![32, 3072] inb_S256x3072_S32x3072_0_0, codesV (hV g (View.ld x (Rect.unit (s := S256x3072) ![0, 0] ![32, 3072] inb_S256x3072_S32x3072_0_0)))⟩ : View.Piece (Elt F) S256x3072 .fp8e4m3)] = codesB g x := rfl

/-- The projections of a block, scaled. -/
def yB (a : Vec F S256x128 .f32) (wt : Vec F S1152x3072 .fp8e4m3) (cs : Vec F S256x3072 .fp8e4m3) (ws : Vec F S1152x128 .f32) : FVec F S1152x256 .f32 :=
  k0_pay84 (k0_pay80 a) (k0_pay81 a) 8388608#32 wt cs ws
theorem yB_fold (a : Vec F S256x128 .f32) (wt : Vec F S1152x3072 .fp8e4m3) (cs : Vec F S256x3072 .fp8e4m3) (ws : Vec F S1152x128 .f32) :
  k0_pay84 (k0_pay80 a) (k0_pay81 a) 8388608#32 wt cs ws = yB a wt cs ws := rfl
/-- The cosines and the sines of a block. -/
def cosB (p : Vec F S1x256 .i32) (T : Vec F S4x48x128 .f32) : FVec F S48x256 .f32 :=
  k0_pay100 (k0_pay92 (k0_pay85 (F := F) (pos0 p)) (k0_pay86 (F := F) (pos0 p)) (k0_pay87 (tab0 T)) 0#32 (tab1 T) (tab2 T) (tab3 T)) (k0_pay95 (F := F) (pos1 p))
    (k0_pay96 (pos1 p) (tab0 T)) (k0_pay97 (pos1 p) (tab1 T)) (k0_pay98 (pos1 p) (tab2 T)) (tab3 T)
def sinB (p : Vec F S1x256 .i32) (T : Vec F S4x48x128 .f32) : FVec F S48x256 .f32 :=
  k0_pay101 (k0_pay93 (k0_pay85 (F := F) (pos0 p)) (k0_pay86 (F := F) (pos0 p)) (k0_pay87 (tab0 T)) 0#32 (tab1 T) (tab2 T) (tab3 T)) (k0_pay95 (F := F) (pos1 p))
    (k0_pay96 (pos1 p) (tab0 T)) (k0_pay97 (pos1 p) (tab1 T)) (k0_pay98 (pos1 p) (tab2 T)) (tab3 T)
theorem cosB_fold (p : Vec F S1x256 .i32) (T : Vec F S4x48x128 .f32) :
  k0_pay100 (k0_pay92 (k0_pay85 (F := F) (pos0 p)) (k0_pay86 (F := F) (pos0 p)) (k0_pay87 (tab0 T)) 0#32 (tab1 T) (tab2 T) (tab3 T)) (k0_pay95 (F := F) (pos1 p))
    (k0_pay96 (pos1 p) (tab0 T)) (k0_pay97 (pos1 p) (tab1 T)) (k0_pay98 (pos1 p) (tab2 T)) (tab3 T) = cosB p T := rfl
theorem sinB_fold (p : Vec F S1x256 .i32) (T : Vec F S4x48x128 .f32) :
  k0_pay101 (k0_pay93 (k0_pay85 (F := F) (pos0 p)) (k0_pay86 (F := F) (pos0 p)) (k0_pay87 (tab0 T)) 0#32 (tab1 T) (tab2 T) (tab3 T)) (k0_pay95 (F := F) (pos1 p))
    (k0_pay96 (pos1 p) (tab0 T)) (k0_pay97 (pos1 p) (tab1 T)) (k0_pay98 (pos1 p) (tab2 T)) (tab3 T) = sinB p T := rfl
/-- The first and the second half of a rotated head. -/
def rotA (y1 y2 C S : FVec F S48x256 .f32) : FVec F S6x8x256 .bf16 :=
  shapeCast S6x8x256 (truncf .bf16 (subf (mulf y1 C) (mulf y2 S)) bitsLt_bf16_f32) shapeCasts_S48x256_S6x8x256
def rotB (y1 y2 C S : FVec F S48x256 .f32) : FVec F S6x8x256 .bf16 :=
  shapeCast S6x8x256 (truncf .bf16 (addf (mulf y2 C) (mulf y1 S)) bitsLt_bf16_f32) shapeCasts_S48x256_S6x8x256
variable (y : FVec F S1152x256 .f32) (C S : FVec F S48x256 .f32) (a b d e f : FVec F S48x128 .f32) (p : IVec S48x128 32) (T : Vec F S1x48x128 .f32)
theorem r0 : k0_pay104 y a b p d e f T = rotA (extractStridedSlice S48x256 ![0, 0] y slices_S1152x256_o0_0_S48x256) (extractStridedSlice S48x256 ![48, 0] y slices_S1152x256_o48_0_S48x256) (k0_pay100 a p d e f T) (k0_pay101 b p d e f T) := rfl
theorem r1 : k0_pay105 y a b p d e f T = rotB (extractStridedSlice S48x256 ![0, 0] y slices_S1152x256_o0_0_S48x256) (extractStridedSlice S48x256 ![48, 0] y slices_S1152x256_o48_0_S48x256) (k0_pay100 a p d e f T) (k0_pay101 b p d e f T) := rfl
theorem r2 : k0_pay108 y a b p d e f T = rotA (extractStridedSlice S48x256 ![96, 0] y slices_S1152x256_o96_0_S48x256) (extractStridedSlice S48x256 ![144, 0] y slices_S1152x256_o144_0_S48x256) (k0_pay100 a p d e f T) (k0_pay101 b p d e f T) := rfl
theorem r3 : k0_pay109 y a b p d e f T = rotB (extractStridedSlice S48x256 ![96, 0] y slices_S1152x256_o96_0_S48x256) (extractStridedSlice S48x256 ![144, 0] y slices_S1152x256_o144_0_S48x256) (k0_pay100 a p d e f T) (k0_pay101 b p d e f T) := rfl
theorem r4 : k0_pay112 y C S = rotA (extractStridedSlice S48x256 ![192, 0] y slices_S1152x256_o192_0_S48x256) (extractStridedSlice S48x256 ![240, 0] y slices_S1152x256_o240_0_S48x256) C S := rfl
theorem r5 : k0_pay113 y C S = rotB (extractStridedSlice S48x256 ![192, 0] y slices_S1152x256_o192_0_S48x256) (extractStridedSlice S48x256 ![240, 0] y slices_S1152x256_o240_0_S48x256) C S := rfl
theorem r6 : k0_pay116 y C S = rotA (extractStridedSlice S48x256 ![288, 0] y slices_S1152x256_o288_0_S48x256) (extractStridedSlice S48x256 ![336, 0] y slices_S1152x256_o336_0_S48x256) C S := rfl
theorem r7 : k0_pay117 y C S = rotB (extractStridedSlice S48x256 ![288, 0] y slices_S1152x256_o288_0_S48x256) (extractStridedSlice S48x256 ![336, 0] y slices_S1152x256_o336_0_S48x256) C S := rfl
theorem r8 : k0_pay120 y C S = rotA (extractStridedSlice S48x256 ![384, 0] y slices_S1152x256_o384_0_S48x256) (extractStridedSlice S48x256 ![432, 0] y slices_S1152x256_o432_0_S48x256) C S := rfl
theorem r9 : k0_pay121 C S (k0_pay118 y) (k0_pay119 y) = rotB (extractStridedSlice S48x256 ![384, 0] y slices_S1152x256_o384_0_S48x256) (extractStridedSlice S48x256 ![432, 0] y slices_S1152x256_o432_0_S48x256) C S := rfl
theorem r10 : k0_pay124 y C S = rotA (extractStridedSlice S48x256 ![480, 0] y slices_S1152x256_o480_0_S48x256) (extractStridedSlice S48x256 ![528, 0] y slices_S1152x256_o528_0_S48x256) C S := rfl
theorem r11 : k0_pay125 y C S = rotB (extractStridedSlice S48x256 ![480, 0] y slices_S1152x256_o480_0_S48x256) (extractStridedSlice S48x256 ![528, 0] y slices_S1152x256_o528_0_S48x256) C S := rfl
theorem r12 : k0_pay128 y C S = rotA (extractStridedSlice S48x256 ![576, 0] y slices_S1152x256_o576_0_S48x256) (extractStridedSlice S48x256 ![624, 0] y slices_S1152x256_o624_0_S48x256) C S := rfl
theorem r13 : k0_pay129 y C S = rotB (extractStridedSlice S48x256 ![576, 0] y slices_S1152x256_o576_0_S48x256) (extractStridedSlice S48x256 ![624, 0] y slices_S1152x256_o624_0_S48x256) C S := rfl
theorem r14 : k0_pay1 (k0_pay132 y C S) = rotA (extractStridedSlice S48x256 ![672, 0] y slices_S1152x256_o672_0_S48x256) (extractStridedSlice S48x256 ![720, 0] y slices_S1152x256_o720_0_S48x256) C S := rfl
theorem r15 : k0_pay2 C S (k0_pay130 y) (k0_pay131 y) = rotB (extractStridedSlice S48x256 ![672, 0] y slices_S1152x256_o672_0_S48x256) (extractStridedSlice S48x256 ![720, 0] y slices_S1152x256_o720_0_S48x256) C S := rfl
/-- The rotated heads of a block (q), feature-major. -/
def qB (y : FVec F S1152x256 .f32) (C S : FVec F S48x256 .f32) : Vec F S48x8x256 .bf16 :=
  View.canon [(⟨Rect.unit (s := S48x8x256) ![42, 0, 0] ![6, 8, 256] inb_S48x8x256_S6x8x256_42_0_0, rotB (extractStridedSlice S48x256 ![288, 0] y slices_S1152x256_o288_0_S48x256) (extractStridedSlice S48x256 ![336, 0] y slices_S1152x256_o336_0_S48x256) C S⟩ : View.Piece (Elt F) S48x8x256 .bf16),
    (⟨Rect.unit (s := S48x8x256) ![36, 0, 0] ![6, 8, 256] inb_S48x8x256_S6x8x256_36_0_0, rotA (extractStridedSlice S48x256 ![288, 0] y slices_S1152x256_o288_0_S48x256) (extractStridedSlice S48x256 ![336, 0] y slices_S1152x256_o336_0_S48x256) C S⟩ : View.Piece (Elt F) S48x8x256 .bf16),
    (⟨Rect.unit (s := S48x8x256) ![30, 0, 0] ![6, 8, 256] inb_S48x8x256_S6x8x256_30_0_0, rotB (extractStridedSlice S48x256 ![192, 0] y slices_S1152x256_o192_0_S48x256) (extractStridedSlice S48x256 ![240, 0] y slices_S1152x256_o240_0_S48x256) C S⟩ : View.Piece (Elt F) S48x8x256 .bf16),
    (⟨Rect.unit (s := S48x8x256) ![24, 0, 0] ![6, 8, 256] inb_S48x8x256_S6x8x256_24_0_0, rotA (extractStridedSlice S48x256 ![192, 0] y slices_S1152x256_o192_0_S48x256) (extractStridedSlice S48x256 ![240, 0] y slices_S1152x256_o240_0_S48x256) C S⟩ : View.Piece (Elt F) S48x8x256 .bf16),
    (⟨Rect.unit (s := S48x8x256) ![18, 0, 0] ![6, 8, 256] inb_S48x8x256_S6x8x256_18_0_0, rotB (extractStridedSlice S48x256 ![96, 0] y slices_S1152x256_o96_0_S48x256) (extractStridedSlice S48x256 ![144, 0] y slices_S1152x256_o144_0_S48x256) C S⟩ : View.Piece (Elt F) S48x8x256 .bf16),
    (⟨Rect.unit (s := S48x8x256) ![12, 0, 0] ![6, 8, 256] inb_S48x8x256_S6x8x256_12_0_0, rotA (extractStridedSlice S48x256 ![96, 0] y slices_S1152x256_o96_0_S48x256) (extractStridedSlice S48x256 ![144, 0] y slices_S1152x256_o144_0_S48x256) C S⟩ : View.Piece (Elt F) S48x8x256 .bf16),
    (⟨Rect.unit (s := S48x8x256) ![6, 0, 0] ![6, 8, 256] inb_S48x8x256_S6x8x256_6_0_0, rotB (extractStridedSlice S48x256 ![0, 0] y slices_S1152x256_o0_0_S48x256) (extractStridedSlice S48x256 ![48, 0] y slices_S1152x256_o48_0_S48x256) C S⟩ : View.Piece (Elt F) S48x8x256 .bf16),
    (⟨Rect.unit (s := S48x8x256) ![0, 0, 0] ![6, 8, 256] inb_S48x8x256_S6x8x256_0_0_0, rotA (extractStridedSlice S48x256 ![0, 0] y slices_S1152x256_o0_0_S48x256) (extractStridedSlice S48x256 ![48, 0] y slices_S1152x256_o48_0_S48x256) C S⟩ : View.Piece (Elt F) S48x8x256 .bf16)]
theorem qB_fold : View.canon [(⟨Rect.unit (s := S48x8x256) ![42, 0, 0] ![6, 8, 256] inb_S48x8x256_S6x8x256_42_0_0, rotB (extractStridedSlice S48x256 ![288, 0] y slices_S1152x256_o288_0_S48x256) (extractStridedSlice S48x256 ![336, 0] y slices_S1152x256_o336_0_S48x256) C S⟩ : View.Piece (Elt F) S48x8x256 .bf16),
    (⟨Rect.unit (s := S48x8x256) ![36, 0, 0] ![6, 8, 256] inb_S48x8x256_S6x8x256_36_0_0, rotA (extractStridedSlice S48x256 ![288, 0] y slices_S1152x256_o288_0_S48x256) (extractStridedSlice S48x256 ![336, 0] y slices_S1152x256_o336_0_S48x256) C S⟩ : View.Piece (Elt F) S48x8x256 .bf16),
    (⟨Rect.unit (s := S48x8x256) ![30, 0, 0] ![6, 8, 256] inb_S48x8x256_S6x8x256_30_0_0, rotB (extractStridedSlice S48x256 ![192, 0] y slices_S1152x256_o192_0_S48x256) (extractStridedSlice S48x256 ![240, 0] y slices_S1152x256_o240_0_S48x256) C S⟩ : View.Piece (Elt F) S48x8x256 .bf16),
    (⟨Rect.unit (s := S48x8x256) ![24, 0, 0] ![6, 8, 256] inb_S48x8x256_S6x8x256_24_0_0, rotA (extractStridedSlice S48x256 ![192, 0] y slices_S1152x256_o192_0_S48x256) (extractStridedSlice S48x256 ![240, 0] y slices_S1152x256_o240_0_S48x256) C S⟩ : View.Piece (Elt F) S48x8x256 .bf16),
    (⟨Rect.unit (s := S48x8x256) ![18, 0, 0] ![6, 8, 256] inb_S48x8x256_S6x8x256_18_0_0, rotB (extractStridedSlice S48x256 ![96, 0] y slices_S1152x256_o96_0_S48x256) (extractStridedSlice S48x256 ![144, 0] y slices_S1152x256_o144_0_S48x256) C S⟩ : View.Piece (Elt F) S48x8x256 .bf16),
    (⟨Rect.unit (s := S48x8x256) ![12, 0, 0] ![6, 8, 256] inb_S48x8x256_S6x8x256_12_0_0, rotA (extractStridedSlice S48x256 ![96, 0] y slices_S1152x256_o96_0_S48x256) (extractStridedSlice S48x256 ![144, 0] y slices_S1152x256_o144_0_S48x256) C S⟩ : View.Piece (Elt F) S48x8x256 .bf16),
    (⟨Rect.unit (s := S48x8x256) ![6, 0, 0] ![6, 8, 256] inb_S48x8x256_S6x8x256_6_0_0, rotB (extractStridedSlice S48x256 ![0, 0] y slices_S1152x256_o0_0_S48x256) (extractStridedSlice S48x256 ![48, 0] y slices_S1152x256_o48_0_S48x256) C S⟩ : View.Piece (Elt F) S48x8x256 .bf16),
    (⟨Rect.unit (s := S48x8x256) ![0, 0, 0] ![6, 8, 256] inb_S48x8x256_S6x8x256_0_0_0, rotA (extractStridedSlice S48x256 ![0, 0] y slices_S1152x256_o0_0_S48x256) (extractStridedSlice S48x256 ![48, 0] y slices_S1152x256_o48_0_S48x256) C S⟩ : View.Piece (Elt F) S48x8x256 .bf16)] = qB y C S := rfl
/-- The rotated heads of a block (k), feature-major. -/
def kB (y : FVec F S1152x256 .f32) (C S : FVec F S48x256 .f32) : Vec F S48x8x256 .bf16 :=
  View.canon [(⟨Rect.unit (s := S48x8x256) ![42, 0, 0] ![6, 8, 256] inb_S48x8x256_S6x8x256_42_0_0, rotB (extractStridedSlice S48x256 ![672, 0] y slices_S1152x256_o672_0_S48x256) (extractStridedSlice S48x256 ![720, 0] y slices_S1152x256_o720_0_S48x256) C S⟩ : View.Piece (Elt F) S48x8x256 .bf16),
    (⟨Rect.unit (s := S48x8x256) ![36, 0, 0] ![6, 8, 256] inb_S48x8x256_S6x8x256_36_0_0, rotA (extractStridedSlice S48x256 ![672, 0] y slices_S1152x256_o672_0_S48x256) (extractStridedSlice S48x256 ![720, 0] y slices_S1152x256_o720_0_S48x256) C S⟩ : View.Piece (Elt F) S48x8x256 .bf16),
    (⟨Rect.unit (s := S48x8x256) ![30, 0, 0] ![6, 8, 256] inb_S48x8x256_S6x8x256_30_0_0, rotB (extractStridedSlice S48x256 ![576, 0] y slices_S1152x256_o576_0_S48x256) (extractStridedSlice S48x256 ![624, 0] y slices_S1152x256_o624_0_S48x256) C S⟩ : View.Piece (Elt F) S48x8x256 .bf16),
    (⟨Rect.unit (s := S48x8x256) ![24, 0, 0] ![6, 8, 256] inb_S48x8x256_S6x8x256_24_0_0, rotA (extractStridedSlice S48x256 ![576, 0] y slices_S1152x256_o576_0_S48x256) (extractStridedSlice S48x256 ![624, 0] y slices_S1152x256_o624_0_S48x256) C S⟩ : View.Piece (Elt F) S48x8x256 .bf16),
    (⟨Rect.unit (s := S48x8x256) ![18, 0, 0] ![6, 8, 256] inb_S48x8x256_S6x8x256_18_0_0, rotB (extractStridedSlice S48x256 ![480, 0] y slices_S1152x256_o480_0_S48x256) (extractStridedSlice S48x256 ![528, 0] y slices_S1152x256_o528_0_S48x256) C S⟩ : View.Piece (Elt F) S48x8x256 .bf16),
    (⟨Rect.unit (s := S48x8x256) ![12, 0, 0] ![6, 8, 256] inb_S48x8x256_S6x8x256_12_0_0, rotA (extractStridedSlice S48x256 ![480, 0] y slices_S1152x256_o480_0_S48x256) (extractStridedSlice S48x256 ![528, 0] y slices_S1152x256_o528_0_S48x256) C S⟩ : View.Piece (Elt F) S48x8x256 .bf16),
    (⟨Rect.unit (s := S48x8x256) ![6, 0, 0] ![6, 8, 256] inb_S48x8x256_S6x8x256_6_0_0, rotB (extractStridedSlice S48x256 ![384, 0] y slices_S1152x256_o384_0_S48x256) (extractStridedSlice S48x256 ![432, 0] y slices_S1152x256_o432_0_S48x256) C S⟩ : View.Piece (Elt F) S48x8x256 .bf16),
    (⟨Rect.unit (s := S48x8x256) ![0, 0, 0] ![6, 8, 256] inb_S48x8x256_S6x8x256_0_0_0, rotA (extractStridedSlice S48x256 ![384, 0] y slices_S1152x256_o384_0_S48x256) (extractStridedSlice S48x256 ![432, 0] y slices_S1152x256_o432_0_S48x256) C S⟩ : View.Piece (Elt F) S48x8x256 .bf16)]
theorem kB_fold : View.canon [(⟨Rect.unit (s := S48x8x256) ![42, 0, 0] ![6, 8, 256] inb_S48x8x256_S6x8x256_42_0_0, rotB (extractStridedSlice S48x256 ![672, 0] y slices_S1152x256_o672_0_S48x256) (extractStridedSlice S48x256 ![720, 0] y slices_S1152x256_o720_0_S48x256) C S⟩ : View.Piece (Elt F) S48x8x256 .bf16),
    (⟨Rect.unit (s := S48x8x256) ![36, 0, 0] ![6, 8, 256] inb_S48x8x256_S6x8x256_36_0_0, rotA (extractStridedSlice S48x256 ![672, 0] y slices_S1152x256_o672_0_S48x256) (extractStridedSlice S48x256 ![720, 0] y slices_S1152x256_o720_0_S48x256) C S⟩ : View.Piece (Elt F) S48x8x256 .bf16),
    (⟨Rect.unit (s := S48x8x256) ![30, 0, 0] ![6, 8, 256] inb_S48x8x256_S6x8x256_30_0_0, rotB (extractStridedSlice S48x256 ![576, 0] y slices_S1152x256_o576_0_S48x256) (extractStridedSlice S48x256 ![624, 0] y slices_S1152x256_o624_0_S48x256) C S⟩ : View.Piece (Elt F) S48x8x256 .bf16),
    (⟨Rect.unit (s := S48x8x256) ![24, 0, 0] ![6, 8, 256] inb_S48x8x256_S6x8x256_24_0_0, rotA (extractStridedSlice S48x256 ![576, 0] y slices_S1152x256_o576_0_S48x256) (extractStridedSlice S48x256 ![624, 0] y slices_S1152x256_o624_0_S48x256) C S⟩ : View.Piece (Elt F) S48x8x256 .bf16),
    (⟨Rect.unit (s := S48x8x256) ![18, 0, 0] ![6, 8, 256] inb_S48x8x256_S6x8x256_18_0_0, rotB (extractStridedSlice S48x256 ![480, 0] y slices_S1152x256_o480_0_S48x256) (extractStridedSlice S48x256 ![528, 0] y slices_S1152x256_o528_0_S48x256) C S⟩ : View.Piece (Elt F) S48x8x256 .bf16),
    (⟨Rect.unit (s := S48x8x256) ![12, 0, 0] ![6, 8, 256] inb_S48x8x256_S6x8x256_12_0_0, rotA (extractStridedSlice S48x256 ![480, 0] y slices_S1152x256_o480_0_S48x256) (extractStridedSlice S48x256 ![528, 0] y slices_S1152x256_o528_0_S48x256) C S⟩ : View.Piece (Elt F) S48x8x256 .bf16),
    (⟨Rect.unit (s := S48x8x256) ![6, 0, 0] ![6, 8, 256] inb_S48x8x256_S6x8x256_6_0_0, rotB (extractStridedSlice S48x256 ![384, 0] y slices_S1152x256_o384_0_S48x256) (extractStridedSlice S48x256 ![432, 0] y slices_S1152x256_o432_0_S48x256) C S⟩ : View.Piece (Elt F) S48x8x256 .bf16),
    (⟨Rect.unit (s := S48x8x256) ![0, 0, 0] ![6, 8, 256] inb_S48x8x256_S6x8x256_0_0_0, rotA (extractStridedSlice S48x256 ![384, 0] y slices_S1152x256_o384_0_S48x256) (extractStridedSlice S48x256 ![432, 0] y slices_S1152x256_o432_0_S48x256) C S⟩ : View.Piece (Elt F) S48x8x256 .bf16)] = kB y C S := rfl
end Cert.KernelIdeal.Chunk
end
-- ==== Proof.Open.lean ====
module
public import proofs.«01_k».proof.Proof.Chunk
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)
variable {F : FTy → Type} [FloatOps F]
variable (m : (ℓ : Loc nD τ sig) → Buf (Elt F) ℓ)
/-- What a point of case A leaves in output or scratch 5. -/
theorem atA_5 (c : Dev nD) (t : Fin cfg0.N) (h0 : t.val % 32 = 0) : (outsAt0 m c t.val t.isLt).1 = Chunk.qB (Chunk.yB (Chunk.amaxB (iblk m c 1 t) (iblk m c 0 t)) (k0_pay4 (iblk m c 2 t)) (Chunk.codesB (iblk m c 1 t) (iblk m c 0 t)) (k0_pay5 (iblk m c 3 t))) (Chunk.cosB (iblk m c 4 t) Chunk.trigT) (Chunk.sinB (iblk m c 4 t) Chunk.trigT) := by
  rw [outsAt0_A m c t h0]; dsimp only
  unfold out0_A_5
  rw [View.read_writes_eq_canon _ _ _ (cover0_A_5 c _ _ _ _ _ _ _ _ _ _ _ _ _ _ _ _ _ _ _ _ _ _ _ _ _ _ _ _ _ _ _ _ _ _ _ )]
  unfold kernelRun0_A; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case A leaves in output or scratch 6. -/
theorem atA_6 (c : Dev nD) (t : Fin cfg0.N) (h0 : t.val % 32 = 0) : (outsAt0 m c t.val t.isLt).2.1 = Chunk.kB (Chunk.yB (Chunk.amaxB (iblk m c 1 t) (iblk m c 0 t)) (k0_pay4 (iblk m c 2 t)) (Chunk.codesB (iblk m c 1 t) (iblk m c 0 t)) (k0_pay5 (iblk m c 3 t))) (Chunk.cosB (iblk m c 4 t) Chunk.trigT) (Chunk.sinB (iblk m c 4 t) Chunk.trigT) := by
  rw [outsAt0_A m c t h0]; dsimp only
  unfold out0_A_6
  rw [View.read_writes_eq_canon _ _ _ (cover0_A_6 c _ _ _ _ _ _ _ _ _ _ _ _ _ _ _ _ _ _ _ _ _ _ _ _ _ _ _ _ _ _ _ _ _ _ _ )]
  unfold kernelRun0_A; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case A leaves in output or scratch 7. -/
theorem atA_7 (c : Dev nD) (t : Fin cfg0.N) (h0 : t.val % 32 = 0) : (outsAt0 m c t.val t.isLt).2.2.1 = k0_pay3 (Chunk.yB (Chunk.amaxB (iblk m c 1 t) (iblk m c 0 t)) (k0_pay4 (iblk m c 2 t)) (Chunk.codesB (iblk m c 1 t) (iblk m c 0 t)) (k0_pay5 (iblk m c 3 t))) := by
  rw [outsAt0_A m c t h0]; dsimp only
  unfold out0_A_7
  rw [View.read_writes_eq_canon _ _ _ (cover0_A_7 c _ _ _ _ _ _ _ _ _ _ _ _ _ _ _ _ _ _ _ _ _ _ _ _ _ _ _ _ _ _ _ _ _ _ _ )]
  unfold kernelRun0_A; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case A leaves in output or scratch 8. -/
theorem atA_8 (c : Dev nD) (t : Fin cfg0.N) (h0 : t.val % 32 = 0) : (outsAt0 m c t.val t.isLt).2.2.2.1 = (Chunk.codesB (iblk m c 1 t) (iblk m c 0 t)) := by
  rw [outsAt0_A m c t h0]; dsimp only
  unfold out0_A_8
  rw [View.read_writes_eq_canon _ _ _ (cover0_A_8 c _ _ _ _ _ _ _ _ _ _ _ _ _ _ _ _ _ _ _ _ _ _ _ _ _ _ _ _ _ _ _ _ _ _ _ )]
  unfold kernelRun0_A; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case A leaves in output or scratch 9. -/
theorem atA_9 (c : Dev nD) (t : Fin cfg0.N) (h0 : t.val % 32 = 0) : (outsAt0 m c t.val t.isLt).2.2.2.2.1 = k0_pay83 (k0_pay80 (Chunk.amaxB (iblk m c 1 t) (iblk m c 0 t))) (k0_pay81 (Chunk.amaxB (iblk m c 1 t) (iblk m c 0 t))) 8388608#32 := by
  rw [outsAt0_A m c t h0]; dsimp only
  unfold out0_A_9
  rw [View.read_writes_eq_canon _ _ _ (cover0_A_9 c _ _ _ _ _ _ _ _ _ _ _ _ _ _ _ _ _ _ _ _ _ _ _ _ _ _ _ _ _ _ _ _ _ _ _ )]
  unfold kernelRun0_A; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case A leaves in output or scratch s0. -/
theorem atA_s0 (c : Dev nD) (t : Fin cfg0.N) (h0 : t.val % 32 = 0) : (outsAt0 m c t.val t.isLt).2.2.2.2.2.1 = (k0_pay4 (iblk m c 2 t)) := by
  rw [outsAt0_A m c t h0]; dsimp only
  unfold sout0_A_0
  rw [View.read_writes_eq_canon _ _ _ (scover0_A_0 c _ _ _ _ _ _ _ _ _ _ _ _ _ _ _ _ _ _ _ _ _ _ _ _ _ _ _ _ _ _ _ _ _ _ _ )]
  unfold kernelRun0_A; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case A leaves in output or scratch s1. -/
theorem atA_s1 (c : Dev nD) (t : Fin cfg0.N) (h0 : t.val % 32 = 0) : (outsAt0 m c t.val t.isLt).2.2.2.2.2.2.1 = (k0_pay5 (iblk m c 3 t)) := by
  rw [outsAt0_A m c t h0]; dsimp only
  unfold sout0_A_1
  rw [View.read_writes_eq_canon _ _ _ (scover0_A_1 c _ _ _ _ _ _ _ _ _ _ _ _ _ _ _ _ _ _ _ _ _ _ _ _ _ _ _ _ _ _ _ _ _ _ _ )]
  unfold kernelRun0_A; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case A leaves in output or scratch s2. -/
theorem atA_s2 (c : Dev nD) (t : Fin cfg0.N) (h0 : t.val % 32 = 0) : (outsAt0 m c t.val t.isLt).2.2.2.2.2.2.2 = Chunk.trigT := by
  rw [outsAt0_A m c t h0]; dsimp only
  unfold sout0_A_2
  rw [View.read_writes_eq_canon _ _ _ (scover0_A_2 c _ _ _ _ _ _ _ _ _ _ _ _ _ _ _ _ _ _ _ _ _ _ _ _ _ _ _ _ _ _ _ _ _ _ _ )]
  unfold kernelRun0_A; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case B leaves in output or scratch 5. -/
theorem atB_5 (c : Dev nD) (t : Fin cfg0.N) (h0 : ¬t.val % 32 = 0) : (outsAt0 m c t.val t.isLt).1 = Chunk.qB (Chunk.yB (Chunk.amaxB (iblk m c 1 t) (iblk m c 0 t)) ((outsAt0 m c (t.val - 1) (Nat.lt_of_le_of_lt (Nat.sub_le _ _) t.isLt)).2.2.2.2.2.1) (Chunk.codesB (iblk m c 1 t) (iblk m c 0 t)) ((outsAt0 m c (t.val - 1) (Nat.lt_of_le_of_lt (Nat.sub_le _ _) t.isLt)).2.2.2.2.2.2.1)) (Chunk.cosB (iblk m c 4 t) ((outsAt0 m c (t.val - 1) (Nat.lt_of_le_of_lt (Nat.sub_le _ _) t.isLt)).2.2.2.2.2.2.2)) (Chunk.sinB (iblk m c 4 t) ((outsAt0 m c (t.val - 1) (Nat.lt_of_le_of_lt (Nat.sub_le _ _) t.isLt)).2.2.2.2.2.2.2)) := by
  rw [outsAt0_B m c t h0]; dsimp only
  unfold out0_B_5
  rw [View.read_writes_eq_canon _ _ _ (cover0_B_5 c _ _ _ _ _ _ _ _ _ _ _ _ _ _ _ _ _ _ _ _ _ _ _ _ _ _ _ _ _ _ _ _ _ _ _ _ _ _ )]
  unfold kernelRun0_B; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case B leaves in output or scratch 6. -/
theorem atB_6 (c : Dev nD) (t : Fin cfg0.N) (h0 : ¬t.val % 32 = 0) : (outsAt0 m c t.val t.isLt).2.1 = Chunk.kB (Chunk.yB (Chunk.amaxB (iblk m c 1 t) (iblk m c 0 t)) ((outsAt0 m c (t.val - 1) (Nat.lt_of_le_of_lt (Nat.sub_le _ _) t.isLt)).2.2.2.2.2.1) (Chunk.codesB (iblk m c 1 t) (iblk m c 0 t)) ((outsAt0 m c (t.val - 1) (Nat.lt_of_le_of_lt (Nat.sub_le _ _) t.isLt)).2.2.2.2.2.2.1)) (Chunk.cosB (iblk m c 4 t) ((outsAt0 m c (t.val - 1) (Nat.lt_of_le_of_lt (Nat.sub_le _ _) t.isLt)).2.2.2.2.2.2.2)) (Chunk.sinB (iblk m c 4 t) ((outsAt0 m c (t.val - 1) (Nat.lt_of_le_of_lt (Nat.sub_le _ _) t.isLt)).2.2.2.2.2.2.2)) := by
  rw [outsAt0_B m c t h0]; dsimp only
  unfold out0_B_6
  rw [View.read_writes_eq_canon _ _ _ (cover0_B_6 c _ _ _ _ _ _ _ _ _ _ _ _ _ _ _ _ _ _ _ _ _ _ _ _ _ _ _ _ _ _ _ _ _ _ _ _ _ _ )]
  unfold kernelRun0_B; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case B leaves in output or scratch 7. -/
theorem atB_7 (c : Dev nD) (t : Fin cfg0.N) (h0 : ¬t.val % 32 = 0) : (outsAt0 m c t.val t.isLt).2.2.1 = k0_pay3 (Chunk.yB (Chunk.amaxB (iblk m c 1 t) (iblk m c 0 t)) ((outsAt0 m c (t.val - 1) (Nat.lt_of_le_of_lt (Nat.sub_le _ _) t.isLt)).2.2.2.2.2.1) (Chunk.codesB (iblk m c 1 t) (iblk m c 0 t)) ((outsAt0 m c (t.val - 1) (Nat.lt_of_le_of_lt (Nat.sub_le _ _) t.isLt)).2.2.2.2.2.2.1)) := by
  rw [outsAt0_B m c t h0]; dsimp only
  unfold out0_B_7
  rw [View.read_writes_eq_canon _ _ _ (cover0_B_7 c _ _ _ _ _ _ _ _ _ _ _ _ _ _ _ _ _ _ _ _ _ _ _ _ _ _ _ _ _ _ _ _ _ _ _ _ _ _ )]
  unfold kernelRun0_B; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case B leaves in output or scratch 8. -/
theorem atB_8 (c : Dev nD) (t : Fin cfg0.N) (h0 : ¬t.val % 32 = 0) : (outsAt0 m c t.val t.isLt).2.2.2.1 = (Chunk.codesB (iblk m c 1 t) (iblk m c 0 t)) := by
  rw [outsAt0_B m c t h0]; dsimp only
  unfold out0_B_8
  rw [View.read_writes_eq_canon _ _ _ (cover0_B_8 c _ _ _ _ _ _ _ _ _ _ _ _ _ _ _ _ _ _ _ _ _ _ _ _ _ _ _ _ _ _ _ _ _ _ _ _ _ _ )]
  unfold kernelRun0_B; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a point of case B leaves in output or scratch 9. -/
theorem atB_9 (c : Dev nD) (t : Fin cfg0.N) (h0 : ¬t.val % 32 = 0) : (outsAt0 m c t.val t.isLt).2.2.2.2.1 = k0_pay83 (k0_pay80 (Chunk.amaxB (iblk m c 1 t) (iblk m c 0 t))) (k0_pay81 (Chunk.amaxB (iblk m c 1 t) (iblk m c 0 t))) 8388608#32 := by
  rw [outsAt0_B m c t h0]; dsimp only
  unfold out0_B_9
  rw [View.read_writes_eq_canon _ _ _ (cover0_B_9 c _ _ _ _ _ _ _ _ _ _ _ _ _ _ _ _ _ _ _ _ _ _ _ _ _ _ _ _ _ _ _ _ _ _ _ _ _ _ )]
  unfold kernelRun0_B; dsimp only
  sl_unfold_words
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, (Memref.isWhole_whole cc0_scratch2).read_unread, Chunk.readCov_ld, Chunk.ld_gain,
    Chunk.a0, Chunk.a1, Chunk.a2, Chunk.a3, Chunk.a4, Chunk.a5, Chunk.a6, Chunk.a7, Chunk.c0, Chunk.c1, Chunk.c2, Chunk.c3, Chunk.c4, Chunk.c5, Chunk.c6, Chunk.c7]
  simp only [Chunk.amaxB_fold, Chunk.codesB_fold, Chunk.ld_w, Chunk.ld_ws, Chunk.ld_amax, Chunk.ld_wt, Chunk.ld_codes, Chunk.ld_wsc, Chunk.canon_wt, Chunk.canon_wsc, Chunk.canon_sc, Chunk.canon_v, Chunk.trigT_fold, Chunk.tab0_fold, Chunk.tab1_fold, Chunk.tab2_fold, Chunk.tab3_fold, Chunk.pos0_fold, Chunk.pos1_fold, Chunk.yB_fold,
    Chunk.r0, Chunk.r1, Chunk.r2, Chunk.r3, Chunk.r4, Chunk.r5, Chunk.r6, Chunk.r7, Chunk.r8, Chunk.r9, Chunk.r10, Chunk.r11, Chunk.r12, Chunk.r13, Chunk.r14, Chunk.r15, Chunk.cosB_fold, Chunk.sinB_fold, Chunk.qB_fold, Chunk.kB_fold]
/-- What a later point leaves in a scratch table: what the point before left. -/
theorem atB_s0 (c : Dev nD) (t : Fin cfg0.N) (h0 : ¬t.val % 32 = 0) : (outsAt0 m c t.val t.isLt).2.2.2.2.2.1 = ((outsAt0 m c (t.val - 1) (Nat.lt_of_le_of_lt (Nat.sub_le _ _) t.isLt)).2.2.2.2.2.1) := by
  rw [outsAt0_B m c t h0]; dsimp only [sout0_B_0, sout0_B_1, sout0_B_2]
/-- What a later point leaves in a scratch table: what the point before left. -/
theorem atB_s1 (c : Dev nD) (t : Fin cfg0.N) (h0 : ¬t.val % 32 = 0) : (outsAt0 m c t.val t.isLt).2.2.2.2.2.2.1 = ((outsAt0 m c (t.val - 1) (Nat.lt_of_le_of_lt (Nat.sub_le _ _) t.isLt)).2.2.2.2.2.2.1) := by
  rw [outsAt0_B m c t h0]; dsimp only [sout0_B_0, sout0_B_1, sout0_B_2]
/-- What a later point leaves in a scratch table: what the point before left. -/
theorem atB_s2 (c : Dev nD) (t : Fin cfg0.N) (h0 : ¬t.val % 32 = 0) : (outsAt0 m c t.val t.isLt).2.2.2.2.2.2.2 = ((outsAt0 m c (t.val - 1) (Nat.lt_of_le_of_lt (Nat.sub_le _ _) t.isLt)).2.2.2.2.2.2.2) := by
  rw [outsAt0_B m c t h0]; dsimp only [sout0_B_0, sout0_B_1, sout0_B_2]
end Cert.KernelIdeal.Gen
end
-- ==== Proof.Words.lean ====
/- The f32 words the kernel searches for a token's scale, at the extended reals: what an exponent field denotes, what the
   eight steps of the search find, and that the two words built from it are the power of two above the value and its
   inverse. Nothing here mentions the kernel. -/
module

public import Idealize.ShloMosaic.PureOps.Ideal
public import Mathlib.Analysis.SpecialFunctions.Log.Basic

@[expose] public section

noncomputable section

namespace Cert.KernelIdeal.Words

open Idealize.ShloMosaic

/-- What the f32 exponent field `n` with a zero fraction denotes: `0` at `0`, `2^(n-127)` below `255`, `+∞` from there. -/
def fieldVal (n : ℕ) : EReal := if n = 0 then 0 else if 255 ≤ n then ⊤ else (((2 : ℝ) ^ ((n : ℤ) - 127) : ℝ) : EReal)

/-- The f32 word of exponent field `n` and fraction zero. -/
def fieldWord (n : ℕ) : BitVec 32 := BitVec.ofNat 32 (n * 8388608)

/-- That word's parts: sign zero, exponent `n`, fraction zero. -/
theorem fieldWord_parts : ∀ n : Fin 256, (fieldWord n.val).extractLsb' (8 + 23) 1 = 0#1
    ∧ ((fieldWord n.val).extractLsb' 23 8).toNat = n.val ∧ ((fieldWord n.val).extractLsb' 0 23).toNat = 0 := by
  decide +kernel

/-- What the word of exponent field `n ≤ 255` denotes. -/
theorem ofBits_fieldWord (n : ℕ) (h : n ≤ 255) : Ideal.ofBits .f32 (fieldWord n) = fieldVal n := by
  obtain ⟨h1, h2, h3⟩ := fieldWord_parts ⟨n, by omega⟩
  show Ideal.ieee 8 23 (fieldWord n) = _
  unfold Ideal.ieee fieldVal
  simp only at h1 h2 h3
  simp only [h1, h2, h3]
  by_cases h0 : n = 0
  · subst h0; simp
  · by_cases h5 : 255 ≤ n
    · have : n = 255 := by omega
      subst this; simp
    · rw [if_neg (by omega), if_neg h0, if_neg h0, if_neg h5]
      congr 1
      simp only [show ((0#1 : BitVec 1) == 1#1) = false from rfl, Bool.false_eq_true, if_false, one_mul, Nat.add_zero]
      push_cast
      rw [show (8388608 : ℝ) = (2 : ℝ) ^ (23 : ℤ) by norm_num, ← zpow_add₀ two_ne_zero]
      congr 1; ring

/-- One step of the search: the candidate `e + s` replaces `e` where the value is at least what the candidate's word
    denotes. -/
def step (t : EReal) (s e : BitVec 32) : BitVec 32 := if Ideal.ofBits .f32 (e + s) ≤ t then e + s else e

/-- A step of `k` fields from field `n` keeps the value between the found field and the one `k` further. -/
theorem step_spec (t : EReal) (n k : ℕ) (hk : 1 ≤ k) (hn : n + 2 * k ≤ 256) (h1 : fieldVal n ≤ t)
    (h2 : t < fieldVal (n + 2 * k)) : ∃ n', step t (fieldWord k) (fieldWord n) = fieldWord n' ∧ n' + k ≤ 256
      ∧ fieldVal n' ≤ t ∧ t < fieldVal (n' + k) := by
  have hw : fieldWord n + fieldWord k = fieldWord (n + k) := by
    simp only [fieldWord, Nat.add_mul, BitVec.ofNat_add]
  unfold step
  rw [hw, ofBits_fieldWord _ (by omega)]
  by_cases h : fieldVal (n + k) ≤ t
  · refine ⟨n + k, by rw [if_pos h], by omega, h, ?_⟩
    rw [show n + k + k = n + 2 * k by ring]; exact h2
  · exact ⟨n, by rw [if_neg h], by omega, h1, not_le.mp h⟩

/-- The eight steps of the search. -/
def field (t : EReal) : BitVec 32 :=
  step t 8388608#32 (step t 16777216#32 (step t 33554432#32 (step t 67108864#32 (step t 134217728#32
    (step t 268435456#32 (step t 536870912#32 (step t 1073741824#32 0#32)))))))

/-- The search finds the field whose power of two is the last not above the value. -/
theorem field_spec (t : EReal) (h0 : 0 ≤ t) (h1 : t < ⊤) : ∃ n, field t = fieldWord n ∧ n + 1 ≤ 256 ∧ fieldVal n ≤ t
    ∧ t < fieldVal (n + 1) := by
  obtain ⟨a, ha, a1, a2, a3⟩ := step_spec t 0 128 (by norm_num) (by norm_num) (by simpa [fieldVal] using h0)
    (by simpa [fieldVal] using h1)
  obtain ⟨b, hb, b1, b2, b3⟩ := step_spec t a 64 (by norm_num) (by omega) a2 a3
  obtain ⟨c, hc, c1, c2, c3⟩ := step_spec t b 32 (by norm_num) (by omega) b2 b3
  obtain ⟨d, hd, d1, d2, d3⟩ := step_spec t c 16 (by norm_num) (by omega) c2 c3
  obtain ⟨e, he, e1, e2, e3⟩ := step_spec t d 8 (by norm_num) (by omega) d2 d3
  obtain ⟨f, hf, f1, f2, f3⟩ := step_spec t e 4 (by norm_num) (by omega) e2 e3
  obtain ⟨g, hg, g1, g2, g3⟩ := step_spec t f 2 (by norm_num) (by omega) f2 f3
  obtain ⟨n, hn, n1, n2, n3⟩ := step_spec t g 1 (by norm_num) (by omega) g2 g3
  refine ⟨n, ?_, n1, n2, n3⟩
  rw [← hn, ← hg, ← hf, ← he, ← hd, ← hc, ← hb, ← ha]
  rfl

/-- The word of the scale: `1.0` where the field is all zeros or all ones, the next field otherwise. -/
def scaleWord (e : BitVec 32) : BitVec 32 := if e = 0#32 ∨ e = 2139095040#32 then 1065353216#32 else e + 8388608#32

/-- The word of the scale's inverse: `1.0` where the field is all zeros or all ones, field `253 - n` otherwise. -/
def invWord (e : BitVec 32) : BitVec 32 := if e = 0#32 ∨ e = 2139095040#32 then 1065353216#32 else 2122317824#32 - e

/-- The exponent of the scale of a value: `0` below the smallest normal f32, `⌊log₂ t⌋ + 1` from there. -/
def expoOf (t : EReal) : ℤ :=
  if t < (((2 : ℝ) ^ (-126 : ℤ) : ℝ) : EReal) then 0 else ⌊Real.log t.toReal / Real.log 2⌋ + 1

theorem fieldWord_eq_iff : ∀ n : Fin 255, (fieldWord n.val = 0#32 ∨ fieldWord n.val = 2139095040#32) ↔ n.val = 0 := by
  decide +kernel

theorem fieldWord_scale : ∀ n : Fin 255, fieldWord n.val + 8388608#32 = fieldWord (n.val + 1) := by
  decide +kernel

theorem fieldWord_inv : ∀ n : Fin 254, 2122317824#32 - fieldWord n.val = fieldWord (253 - n.val) := by
  decide +kernel

/-- Between two neighbouring powers of two the floor of the base-two logarithm is the exponent of the lower. -/
theorem floor_log (r : ℝ) (z : ℤ) (h1 : (2 : ℝ) ^ z ≤ r) (h2 : r < (2 : ℝ) ^ (z + 1)) :
    ⌊Real.log r / Real.log 2⌋ = z := by
  have hl : 0 < Real.log 2 := Real.log_pos (by norm_num)
  have hp : (0 : ℝ) < (2 : ℝ) ^ z := by positivity
  rw [Int.floor_eq_iff]
  constructor
  · rw [le_div_iff₀ hl, ← Real.log_zpow]
    exact Real.log_le_log hp h1
  · rw [div_lt_iff₀ hl]
    have := Real.log_lt_log (lt_of_lt_of_le hp h1) h2
    rw [Real.log_zpow] at this
    push_cast at this
    exact this

/-- The search's field `n` and the exponent: for a nonnegative value below `2^126`, `n = 0` and exponent `0`, or
    `1 ≤ n ≤ 252` and exponent `n - 126`. -/
theorem field_expo (t : EReal) (h0 : 0 ≤ t) (h1 : t < (((2 : ℝ) ^ (126 : ℤ) : ℝ) : EReal)) :
    ∃ n : ℕ, field t = fieldWord n ∧ n ≤ 252 ∧ ((n = 0 ∧ expoOf t = 0) ∨ (1 ≤ n ∧ expoOf t = (n : ℤ) - 126)) := by
  obtain ⟨n, hn, hle, a, b⟩ := field_spec t h0 (lt_trans h1 (EReal.coe_lt_top _))
  have h252 : n ≤ 252 := by
    by_contra hc
    have : (((2 : ℝ) ^ (126 : ℤ) : ℝ) : EReal) ≤ fieldVal n := by
      unfold fieldVal
      rw [if_neg (by omega)]
      split_ifs
      · exact le_top
      · exact EReal.coe_le_coe_iff.mpr (zpow_le_zpow_right₀ (by norm_num) (by omega))
    exact absurd (lt_of_le_of_lt (this.trans a) h1) (lt_irrefl _)
  refine ⟨n, hn, h252, ?_⟩
  rcases Nat.eq_zero_or_pos n with rfl | hpos
  · left; refine ⟨rfl, ?_⟩
    unfold expoOf; rw [if_pos]
    have : fieldVal (0 + 1) = (((2 : ℝ) ^ (-126 : ℤ) : ℝ) : EReal) := by
      unfold fieldVal; rw [if_neg (by norm_num), if_neg (by norm_num)]; norm_num
    rw [← this]; exact b
  · right; refine ⟨hpos, ?_⟩
    have ea : fieldVal n = (((2 : ℝ) ^ ((n : ℤ) - 127) : ℝ) : EReal) := by
      unfold fieldVal; rw [if_neg (by omega), if_neg (by omega)]
    have eb : fieldVal (n + 1) = (((2 : ℝ) ^ ((n : ℤ) - 127 + 1) : ℝ) : EReal) := by
      unfold fieldVal; rw [if_neg (by omega), if_neg (by omega)]; congr 2; push_cast; ring
    rw [ea] at a; rw [eb] at b
    lift t to ℝ using ⟨ne_top_of_lt b, ne_bot_of_le_ne_bot (EReal.coe_ne_bot 0) h0⟩ with r
    have a' := EReal.coe_le_coe_iff.mp a
    have b' := EReal.coe_lt_coe_iff.mp b
    unfold expoOf
    rw [if_neg, EReal.toReal_coe, floor_log r _ a' b']
    · ring
    · rw [not_lt]
      refine le_trans (EReal.coe_le_coe_iff.mpr (zpow_le_zpow_right₀ (by norm_num) ?_)) a
      omega

/-- The scale's word denotes two to the exponent. -/
theorem scaleWord_field (t : EReal) (h0 : 0 ≤ t) (h1 : t < (((2 : ℝ) ^ (126 : ℤ) : ℝ) : EReal)) :
    Ideal.ofBits .f32 (scaleWord (field t)) = (((2 : ℝ) ^ expoOf t : ℝ) : EReal) := by
  obtain ⟨n, hn, hle, h⟩ := field_expo t h0 h1
  rw [hn]; unfold scaleWord
  rcases h with ⟨rfl, he⟩ | ⟨hp, he⟩
  · rw [if_pos (Or.inl (by decide)), he, show (1065353216#32 : BitVec 32) = fieldWord 127 by decide,
      ofBits_fieldWord _ (by norm_num)]
    unfold fieldVal; rw [if_neg (by norm_num), if_neg (by norm_num)]; norm_num
  · rw [if_neg (fun hc => by have := (fieldWord_eq_iff ⟨n, by omega⟩).mp hc; simp only at this; omega)]
    rw [fieldWord_scale ⟨n, by omega⟩, he]
    simp only
    rw [ofBits_fieldWord _ (by omega)]
    unfold fieldVal; rw [if_neg (by omega), if_neg (by omega)]
    congr 2; push_cast; ring

/-- The inverse's word denotes two to minus the exponent. -/
theorem invWord_field (t : EReal) (h0 : 0 ≤ t) (h1 : t < (((2 : ℝ) ^ (126 : ℤ) : ℝ) : EReal)) :
    Ideal.ofBits .f32 (invWord (field t)) = (((2 : ℝ) ^ (-expoOf t) : ℝ) : EReal) := by
  obtain ⟨n, hn, hle, h⟩ := field_expo t h0 h1
  rw [hn]; unfold invWord
  rcases h with ⟨rfl, he⟩ | ⟨hp, he⟩
  · rw [if_pos (Or.inl (by decide)), he, show (1065353216#32 : BitVec 32) = fieldWord 127 by decide,
      ofBits_fieldWord _ (by norm_num)]
    unfold fieldVal; rw [if_neg (by norm_num), if_neg (by norm_num)]; norm_num
  · rw [if_neg (fun hc => by have := (fieldWord_eq_iff ⟨n, by omega⟩).mp hc; simp only at this; omega)]
    rw [fieldWord_inv ⟨n, by omega⟩, he]
    simp only
    rw [ofBits_fieldWord _ (by omega)]
    unfold fieldVal; rw [if_neg (by omega), if_neg (by omega)]
    congr 2; omega

/-- The reference's exponent as the host computes it: zero where the value is below the smallest normal f32, else the
    floor of the quotient of logarithms, plus one. -/
def hostExpo (t : EReal) : EReal :=
  if t < Ideal.ofBits .f32 8388608#32 then 0
  else Ideal.liftRound Int.floor (Ideal.div (Ideal.log t) (Ideal.log (Ideal.ofBits .f32 1073741824#32))) + 1

theorem ofBits_two : Ideal.ofBits .f32 1073741824#32 = ((2 : ℝ) : EReal) := by
  rw [show (1073741824#32 : BitVec 32) = fieldWord 128 by decide, ofBits_fieldWord _ (by norm_num)]
  unfold fieldVal; rw [if_neg (by norm_num), if_neg (by norm_num)]; norm_num

theorem hostExpo_eq (t : EReal) (h0 : 0 ≤ t) (h1 : t < ⊤) : hostExpo t = (((expoOf t : ℤ) : ℝ) : EReal) := by
  unfold hostExpo expoOf
  rw [show (8388608#32 : BitVec 32) = fieldWord 1 by decide, ofBits_fieldWord _ (by norm_num), ofBits_two]
  have e1 : fieldVal 1 = (((2 : ℝ) ^ (-126 : ℤ) : ℝ) : EReal) := by
    unfold fieldVal; rw [if_neg (by norm_num), if_neg (by norm_num)]; norm_num
  rw [e1]
  by_cases h : t < (((2 : ℝ) ^ (-126 : ℤ) : ℝ) : EReal)
  · rw [if_pos h, if_pos h]; simp
  · rw [if_neg h, if_neg h]
    lift t to ℝ using ⟨ne_top_of_lt h1, ne_bot_of_le_ne_bot (EReal.coe_ne_bot 0) h0⟩ with r
    have hr : 0 < r := lt_of_lt_of_le (by positivity) (EReal.coe_le_coe_iff.mp (not_lt.mp h))
    rw [Ideal.log_coe, Ideal.log_coe, if_neg (not_le.mpr hr), if_neg (by norm_num), Ideal.div_coe
      (Real.log_pos (by norm_num : (1 : ℝ) < 2)).ne', ← EReal.coe_mul, mul_one_div, Ideal.liftRound_coe, EReal.toReal_coe]
    push_cast; rfl

/-- The host's power of two of an integer exponent. -/
theorem pow_two_int (z : ℤ) : Ideal.pow ((2 : ℝ) : EReal) (((z : ℤ) : ℝ) : EReal) = (((2 : ℝ) ^ z : ℝ) : EReal) := by
  show ((Real.rpow 2 z : ℝ) : EReal) = _
  congr 1; exact Real.rpow_intCast 2 z

end Cert.KernelIdeal.Words

end
-- ==== Proof.Rows.lean ====
/- One token of the kernel at the extended reals, as functions of its row of `x`: the normalised row, its largest
   magnitude, the value whose exponent the scale is taken from, and the codes; and the bound that keeps the scale's
   words ordinary. Nothing here mentions the program. -/
module

public import proofs.«01_k».proof.Proof.Words

@[expose] public section

noncomputable section

namespace Cert.KernelIdeal.Rows

open Idealize.ShloMosaic Cert.KernelIdeal.Words
open scoped BigOperators

/-- The reciprocal root mean square of a row. -/
def rms (x : Fin 3072 → EReal) : EReal :=
  Ideal.rsqrt (Ideal.div (∑ j, x j * x j) (Ideal.ofBits .f32 0x45400000#32) + Ideal.ofBits .f32 0x358637BD#32)

/-- The normalised row, times the gain. -/
def hRow (g x : Fin 3072 → EReal) (j : Fin 3072) : EReal := x j * rms x * g j

/-- The largest magnitude of the normalised row. -/
def amax (g x : Fin 3072 → EReal) : EReal :=
  (Finset.univ : Finset (Fin 3072)).fold max (Ideal.ofBits .f32 0xFF800000#32) (fun j => max (hRow g x j) (-hRow g x j))

/-- The largest magnitude over 448. -/
def tOf (g x : Fin 3072 → EReal) : EReal := amax g x * Ideal.ofBits .f32 0x3B124925#32

/-- The codes of a row under the inverse scale `inv`. -/
def code (inv : EReal) (g x : Fin 3072 → EReal) (j : Fin 3072) : EReal :=
  min (Ideal.ofBits .f32 0x43E00000#32) (max (Ideal.ofBits .f32 0xC3E00000#32) (hRow g x j * inv))

theorem ofBits_dim : Ideal.ofBits .f32 0x45400000#32 = ((3072 : ℝ) : EReal) := by
  show Ideal.ieee 8 23 (0x45400000#32) = _
  unfold Ideal.ieee
  simp only [show (0x45400000#32 : BitVec 32).extractLsb' (8 + 23) 1 = 0#1 by decide,
    show ((0x45400000#32 : BitVec 32).extractLsb' 23 8).toNat = 138 by decide,
    show ((0x45400000#32 : BitVec 32).extractLsb' 0 23).toNat = 4194304 by decide]
  norm_num

theorem ofBits_eps : Ideal.ofBits .f32 0x358637BD#32 = ((8796093 * (2 : ℝ) ^ (-43 : ℤ) : ℝ) : EReal) := by
  show Ideal.ieee 8 23 (0x358637BD#32) = _
  unfold Ideal.ieee
  simp only [show (0x358637BD#32 : BitVec 32).extractLsb' (8 + 23) 1 = 0#1 by decide,
    show ((0x358637BD#32 : BitVec 32).extractLsb' 23 8).toNat = 107 by decide,
    show ((0x358637BD#32 : BitVec 32).extractLsb' 0 23).toNat = 407485 by decide]
  norm_num

theorem ofBits_c448 : Ideal.ofBits .f32 0x3B124925#32 = ((9586981 * (2 : ℝ) ^ (-32 : ℤ) : ℝ) : EReal) := by
  show Ideal.ieee 8 23 (0x3B124925#32) = _
  unfold Ideal.ieee
  simp only [show (0x3B124925#32 : BitVec 32).extractLsb' (8 + 23) 1 = 0#1 by decide,
    show ((0x3B124925#32 : BitVec 32).extractLsb' 23 8).toNat = 118 by decide,
    show ((0x3B124925#32 : BitVec 32).extractLsb' 0 23).toNat = 1198373 by decide]
  norm_num

theorem ofBits_max : Ideal.ofBits .f32 0x7F7FFFFF#32 = ((16777215 * (2 : ℝ) ^ (104 : ℤ) : ℝ) : EReal) := by
  show Ideal.ieee 8 23 (0x7F7FFFFF#32) = _
  unfold Ideal.ieee
  simp only [show (0x7F7FFFFF#32 : BitVec 32).extractLsb' (8 + 23) 1 = 0#1 by decide,
    show ((0x7F7FFFFF#32 : BitVec 32).extractLsb' 23 8).toNat = 254 by decide,
    show ((0x7F7FFFFF#32 : BitVec 32).extractLsb' 0 23).toNat = 8388607 by decide]
  norm_num

theorem ofBits_bot : Ideal.ofBits .f32 0xFF800000#32 = ⊥ := by
  show Ideal.ieee 8 23 (0xFF800000#32) = _
  unfold Ideal.ieee
  simp only [show (0xFF800000#32 : BitVec 32).extractLsb' (8 + 23) 1 = 1#1 by decide,
    show ((0xFF800000#32 : BitVec 32).extractLsb' 23 8).toNat = 255 by decide,
    show ((0xFF800000#32 : BitVec 32).extractLsb' 0 23).toNat = 0 by decide]
  norm_num

/-- A square is not negative. -/
theorem mul_self_nonneg' (a : EReal) : 0 ≤ a * a := by
  rcases le_total 0 a with h | h
  · exact EReal.mul_nonneg h h
  · have := EReal.mul_nonneg (EReal.neg_nonneg.mpr h) (EReal.neg_nonneg.mpr h)
    rwa [EReal.neg_mul, mul_comm, EReal.neg_mul, neg_neg] at this

/-- A finite sum of reals, read as extended reals. -/
theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A finite row's normalised entries are reals of magnitude at most 56. -/
theorem norm_real (x : Fin 3072 → ℝ) (j : Fin 3072) :
    ∃ r : ℝ, (x j : EReal) * rms (fun k => (x k : EReal)) = (r : EReal) ∧ |r| ≤ 56 := by
  have hs : (∑ k, (x k : EReal) * (x k : EReal)) = ((∑ k, x k * x k : ℝ) : EReal) := by
    rw [coe_sum]; exact Finset.sum_congr rfl fun k _ => (EReal.coe_mul _ _).symm
  set S : ℝ := ∑ k, x k * x k with hS
  have hS0 : 0 ≤ S := Finset.sum_nonneg fun k _ => mul_self_nonneg _
  set M : ℝ := S * (1 / 3072) + 8796093 * (2 : ℝ) ^ (-43 : ℤ) with hM
  have hM0 : 0 < M := by have : (0 : ℝ) < 8796093 * (2 : ℝ) ^ (-43 : ℤ) := by positivity
                         have : 0 ≤ S * (1 / 3072) := by positivity
                         linarith
  have hr : rms (fun k => (x k : EReal)) = (((Real.sqrt M)⁻¹ : ℝ) : EReal) := by
    unfold rms
    rw [hs, ofBits_dim, ofBits_eps, Ideal.div_coe (by norm_num : (3072 : ℝ) ≠ 0), ← EReal.coe_mul, ← EReal.coe_add, ← hM]
    show (if M < 0 then (⊥ : EReal) else if M = 0 then ⊤ else ((Real.sqrt M)⁻¹ : ℝ)) = _
    rw [if_neg (not_lt.mpr hM0.le), if_neg hM0.ne']
  refine ⟨x j * (Real.sqrt M)⁻¹, by rw [hr, EReal.coe_mul], ?_⟩
  have hq : 0 < Real.sqrt M := Real.sqrt_pos.mpr hM0
  rw [abs_mul, abs_of_pos (inv_pos.mpr hq), ← div_eq_mul_inv, div_le_iff₀ hq]
  have h1 : x j * x j ≤ S := Finset.single_le_sum (f := fun k => x k * x k) (fun k _ => mul_self_nonneg _) (Finset.mem_univ j)
  apply abs_le_of_sq_le_sq _ (by positivity)
  rw [mul_pow, Real.sq_sqrt hM0.le]
  have : (0 : ℝ) < 8796093 * (2 : ℝ) ^ (-43 : ℤ) := by positivity
  nlinarith

/-- An infinite entry makes the mean square infinite and the reciprocal root zero. -/
theorem rms_top (x : Fin 3072 → EReal) (h : ∃ j, x j = ⊤ ∨ x j = ⊥) : rms x = 0 := by
  obtain ⟨j, hj⟩ := h
  have hjj : x j * x j = ⊤ := by rcases hj with h | h <;> rw [h] <;> rfl
  have hs : (∑ k, x k * x k) = ⊤ := by
    refine top_le_iff.mp (hjj ▸ ?_)
    exact Finset.single_le_sum (f := fun k => x k * x k) (fun k _ => mul_self_nonneg' _) (Finset.mem_univ j)
  unfold rms
  rw [hs, ofBits_dim, ofBits_eps, Ideal.div_coe (by norm_num : (3072 : ℝ) ≠ 0), EReal.top_mul_coe_of_pos (by norm_num)]
  rfl

/-- Every normalised entry is a real of magnitude at most 56. -/
theorem norm_bound (x : Fin 3072 → EReal) (j : Fin 3072) : ∃ r : ℝ, x j * rms x = (r : EReal) ∧ |r| ≤ 56 := by
  by_cases h : ∃ j, x j = ⊤ ∨ x j = ⊥
  · exact ⟨0, by rw [rms_top x h, mul_zero]; rfl, by norm_num⟩
  · push Not at h
    have hx : x = fun k => ((x k).toReal : EReal) := funext fun k => (EReal.coe_toReal (h k).1 (h k).2).symm
    rw [hx]
    exact norm_real (fun k => (x k).toReal) j

/-- Under a finite gain the value the exponent is taken from is not negative and below `2^126`. -/
theorem tOf_bound (g x : Fin 3072 → EReal) (hg : ∀ j, max (g j) (-g j) ≤ Ideal.ofBits .f32 0x7F7FFFFF#32) :
    0 ≤ tOf g x ∧ tOf g x < (((2 : ℝ) ^ (126 : ℤ) : ℝ) : EReal) := by
  have hreal : ∀ j, ∃ r : ℝ, max (hRow g x j) (-hRow g x j) = (r : EReal) ∧ 0 ≤ r ∧ r ≤ 56 * (16777215 * (2 : ℝ) ^ (104 : ℤ)) := by
    intro j
    obtain ⟨r, hr, hb⟩ := norm_bound x j
    have hgj := hg j
    rw [ofBits_max] at hgj
    have h1 := le_trans (le_max_left _ _) hgj
    have h2 := le_trans (le_max_right _ _) hgj
    have ht : g j ≠ ⊤ := fun e => by rw [e] at h1; exact absurd h1 (not_le.mpr (EReal.coe_lt_top _))
    have hbt : g j ≠ ⊥ := fun e => by rw [e] at h2; exact absurd h2 (not_le.mpr (EReal.coe_lt_top _))
    lift g j to ℝ using ⟨ht, hbt⟩ with q hq
    have h1' : q ≤ 16777215 * (2 : ℝ) ^ (104 : ℤ) := EReal.coe_le_coe_iff.mp h1
    have h2' : -q ≤ 16777215 * (2 : ℝ) ^ (104 : ℤ) := EReal.coe_le_coe_iff.mp h2
    refine ⟨|r * q|, ?_, abs_nonneg _, ?_⟩
    · unfold hRow; rw [← hq, hr, ← EReal.coe_mul, ← EReal.coe_neg, ← EReal.coe_strictMono.monotone.map_max]; rfl
    · rw [abs_mul]
      exact mul_le_mul hb (abs_le.mpr ⟨by linarith, h1'⟩) (abs_nonneg _) (by norm_num)
  have hle : amax g x ≤ ((56 * (16777215 * (2 : ℝ) ^ (104 : ℤ)) : ℝ) : EReal) := by
    unfold amax
    rw [Finset.fold_max_le, ofBits_bot]
    refine ⟨bot_le, fun j _ => ?_⟩
    obtain ⟨r, hr, _, hb⟩ := hreal j
    rw [hr]; exact EReal.coe_le_coe_iff.mpr hb
  have h0 : 0 ≤ amax g x := by
    unfold amax
    rw [Finset.le_fold_max]
    right
    refine ⟨0, Finset.mem_univ _, ?_⟩
    obtain ⟨r, hr, h0, _⟩ := hreal 0
    rw [hr]; exact EReal.coe_nonneg.mpr h0
  unfold tOf
  rw [ofBits_c448]
  lift amax g x to ℝ using ⟨ne_top_of_le_ne_top (EReal.coe_ne_top _) hle, ne_bot_of_le_ne_bot (EReal.coe_ne_bot 0) h0⟩ with a
  have h0' : 0 ≤ a := EReal.coe_nonneg.mp h0
  have hle' := EReal.coe_le_coe_iff.mp hle
  rw [← EReal.coe_mul]
  refine ⟨EReal.coe_nonneg.mpr (by positivity), EReal.coe_lt_coe_iff.mpr ?_⟩
  refine lt_of_le_of_lt (mul_le_mul_of_nonneg_right hle' (by positivity)) ?_
  norm_num

end Cert.KernelIdeal.Rows

end
-- ==== Proof.Point.lean ====
/- The kernel's per-block values read at an index, at the extended reals: the normalised rows, their largest magnitudes,
   the codes and the scales. -/
module

public import proofs.«01_k».proof.Proof.Chunk
public import proofs.«01_k».proof.Proof.Rows
public import Idealize.ShloMosaic.Lib.ValueLayout
public import Idealize.ShloMosaic.Lib.MatmulPlain
public import Idealize.ShloMosaic.Lib.Pipeline.ValueKit.Geometry
public import Idealize.ShloMosaic.Lib.Pipeline.ValueKit.Tiles

@[expose] public section

set_option maxRecDepth 16384

noncomputable section

namespace Cert.KernelIdeal.Point

open Cert.KernelIdeal.Gen Cert.KernelIdeal.Chunk
open Idealize.ShloMosaic Idealize.ShloMosaic.TcCoe Idealize.ShloMosaic.Tactic
open scoped BigOperators

/-- One step of the search, at an index. -/
theorem stepV_apply {s : Shape} (t : FVec Ideal s .f32) (b : BitVec 32) (e : IVec s 32) (i : s.Idx) :
    stepV t b e i = Words.step (t i) b (e i) := by
  show (if (Ideal.cmp .oge (t i) (Ideal.ofBits .f32 (e i + b))) = 1#1 then e i + b else e i) = _
  unfold Words.step Ideal.cmp
  by_cases h : Ideal.ofBits .f32 (e i + b) ≤ t i <;> simp [h]

/-- The exponent field, at an index. -/
theorem fieldV_apply {s : Shape} (t : FVec Ideal s .f32) (i : s.Idx) : fieldV t i = Words.field (t i) := by
  unfold fieldV
  simp only [stepV_apply]
  rfl

/-- The test for a field of zeros or of ones. -/
theorem corner_iff (e : BitVec 32) :
    (IntOp.cmpi .eq e 0#32 ||| IntOp.cmpi .eq e 2139095040#32 = 1#1) ↔ (e = 0#32 ∨ e = 2139095040#32) := by
  unfold IntOp.cmpi
  by_cases h : e = 0#32
  · subst h; simp
  · by_cases h' : e = 2139095040#32
    · subst h'; simp
    · have h1 : (e == 0#32) = false := by simpa using h
      have h2 : (e == 2139095040#32) = false := by simpa using h'
      simp [h, h', h1, h2]

theorem invV_apply {s : Shape} (e : IVec s 32) (i : s.Idx) :
    invV (F := Ideal) e i = Ideal.ofBits .f32 (Words.invWord (e i)) := by
  show Ideal.ofBits .f32 (if IntOp.cmpi .eq (e i) 0#32 ||| IntOp.cmpi .eq (e i) 2139095040#32 = 1#1 then 1065353216#32
    else 2122317824#32 - e i) = _
  unfold Words.invWord
  simp only [corner_iff]

theorem scaleV_apply {s : Shape} (e : IVec s 32) (i : s.Idx) :
    scaleV (F := Ideal) e i = Ideal.ofBits .f32 (Words.scaleWord (e i)) := by
  show Ideal.ofBits .f32 (if IntOp.cmpi .eq (e i) 0#32 ||| IntOp.cmpi .eq (e i) 2139095040#32 = 1#1 then 1065353216#32
    else e i + 8388608#32) = _
  unfold Words.scaleWord
  simp only [corner_iff]

/-- The normalised rows, at an index. -/
theorem hV_apply (g : Vec Ideal S1x3072 .f32) (x : Vec Ideal S32x3072 .bf16) (r : Fin 32) (j : Fin 3072) :
    hV g x (ix2 r j) = Rows.hRow (fun k => g (ix2 0 k)) (fun k => x (ix2 r k)) j := by
  unfold hV k0_pay14 k0_pay13 Rows.hRow Rows.rms
  pointwise

/-- The largest magnitudes, at an index. -/
theorem amaxV_apply (g : Vec Ideal S1x3072 .f32) (x : Vec Ideal S32x3072 .bf16) (r : Fin 32) (u : Fin 1) :
    amaxV (hV g x) (ix2 r u) = Rows.amax (fun k => g (ix2 0 k)) (fun k => x (ix2 r k)) := by
  unfold amaxV
  pointwise
  simp only [hV_apply]
  rfl

/-- The codes, at an index. -/
theorem codesV_apply (g : Vec Ideal S1x3072 .f32) (x : Vec Ideal S32x3072 .bf16) (r : Fin 32) (j : Fin 3072) :
    codesV (hV g x) (ix2 r j) = Rows.code
      (Ideal.ofBits .f32 (Words.invWord (Words.field (Rows.tOf (fun k => g (ix2 0 k)) (fun k => x (ix2 r k))))))
      (fun k => g (ix2 0 k)) (fun k => x (ix2 r k)) j := by
  unfold codesV clipV
  pointwise
  rw [invV_apply, fieldV_apply, hV_apply]
  unfold tV
  pointwise
  rw [amaxV_apply]
  rfl

/-- The lanes, at an index. -/
theorem lanesV_apply (g : Vec Ideal S1x3072 .f32) (x : Vec Ideal S32x3072 .bf16) (r : Fin 32) (l : Fin 128) :
    lanesV (hV g x) (ix2 r l) = Rows.amax (fun k => g (ix2 0 k)) (fun k => x (ix2 r k)) := by
  unfold lanesV
  pointwise
  rw [amaxV_apply]

/-- The inverse of a row's scale. -/
def invOf (g x : Fin 3072 → EReal) : EReal := Ideal.ofBits .f32 (Words.invWord (Words.field (Rows.tOf g x)))
/-- A row's scale. -/
def scaleOf (g x : Fin 3072 → EReal) : EReal := Ideal.ofBits .f32 (Words.scaleWord (Words.field (Rows.tOf g x)))

/-- The codes' closed form over a block. -/
def codesG (g : Vec Ideal S1x3072 .f32) (x : Vec Ideal S256x3072 .bf16) (y : S256x3072.Idx) : EReal :=
  Rows.code (invOf (fun k => g (ix2 0 k)) (fun k => x (ix2 (y 0) k))) (fun k => g (ix2 0 k)) (fun k => x (ix2 (y 0) k)) (y 1)

/-- The largest magnitudes' closed form over a block. -/
def amaxG (g : Vec Ideal S1x3072 .f32) (x : Vec Ideal S256x3072 .bf16) (y : S256x128.Idx) : EReal :=
  Rows.amax (fun k => g (ix2 0 k)) (fun k => x (ix2 (y 0) k))

theorem ld_row (x : Vec Ideal S256x3072 .bf16) (o : ℕ) (inb : ∀ a : Fin 2, (![o, 0] : Fin 2 → ℕ) a + S32x3072.size a ≤ S256x3072.size a)
    (r : Fin 32) (k : Fin 3072) (n : Fin 256) (hn : n.val = o + r.val) :
    View.ld x (Rect.unit (s := S256x3072) ![o, 0] S32x3072.size inb) (ix2 r k) = x (ix2 n k) := by
  show x _ = x _
  congr 1
  funext a; apply Fin.ext
  match a with
  | ⟨0, _⟩ => exact (Rect.idx_unit_val _ _ _ _ _).trans hn.symm
  | ⟨1, _⟩ => exact (Rect.idx_unit_val _ _ _ _ _).trans (Nat.zero_add _)

theorem piece_codes (g : Vec Ideal S1x3072 .f32) (x : Vec Ideal S256x3072 .bf16) (o : ℕ)
    (inb : ∀ a : Fin 2, (![o, 0] : Fin 2 → ℕ) a + S32x3072.size a ≤ S256x3072.size a)
    (i : S32x3072.Idx) :
    codesV (hV g (View.ld x (Rect.unit (s := S256x3072) ![o, 0] S32x3072.size inb))) i
      = codesG g x ((Rect.unit (s := S256x3072) ![o, 0] S32x3072.size inb).emb i) := by
  obtain ⟨r, j, rfl⟩ : ∃ (r : Fin 32) (j : Fin 3072), i = ix2 r j := ⟨i 0, i 1, eq_ix2 i⟩
  refine (codesV_apply g _ r j).trans ?_
  have e : ∀ k, View.ld x (Rect.unit (s := S256x3072) ![o, 0] S32x3072.size inb) (ix2 r k)
      = x (ix2 ((Rect.unit (s := S256x3072) ![o, 0] S32x3072.size inb).emb (ix2 r j) 0) k) :=
    fun k => ld_row x o inb r k _ (ValueKit.rect_emb_unit_val _ _ _ _ _)
  have e1 : (Rect.unit (s := S256x3072) ![o, 0] S32x3072.size inb).emb (ix2 r j) 1 = j := by
    apply Fin.ext; exact (ValueKit.rect_emb_unit_val _ _ _ _ _).trans (Nat.zero_add _)
  unfold codesG
  rw [e1]
  simp only [e]
  rfl

theorem piece_lanes (g : Vec Ideal S1x3072 .f32) (x : Vec Ideal S256x3072 .bf16) (o : ℕ)
    (inb : ∀ a : Fin 2, (![o, 0] : Fin 2 → ℕ) a + S32x3072.size a ≤ S256x3072.size a)
    (inb' : ∀ a : Fin 2, (![o, 0] : Fin 2 → ℕ) a + S32x128.size a ≤ S256x128.size a)
    (i : S32x128.Idx) :
    lanesV (hV g (View.ld x (Rect.unit (s := S256x3072) ![o, 0] S32x3072.size inb))) i
      = amaxG g x ((Rect.unit (s := S256x128) ![o, 0] S32x128.size inb').emb i) := by
  obtain ⟨r, j, rfl⟩ : ∃ (r : Fin 32) (j : Fin 128), i = ix2 r j := ⟨i 0, i 1, eq_ix2 i⟩
  refine (lanesV_apply g _ r j).trans ?_
  have e : ∀ k, View.ld x (Rect.unit (s := S256x3072) ![o, 0] S32x3072.size inb) (ix2 r k)
      = x (ix2 ((Rect.unit (s := S256x128) ![o, 0] S32x128.size inb').emb (ix2 r j) 0) k) :=
    fun k => ld_row x o inb r k _ (ValueKit.rect_emb_unit_val _ _ _ _ _)
  unfold amaxG
  simp only [e]

/-- The codes of a block of 256 tokens, at an index. -/
theorem codesB_apply (g : Vec Ideal S1x3072 .f32) (x : Vec Ideal S256x3072 .bf16) (y : S256x3072.Idx) :
    codesB g x y = codesG g x y := by
  unfold codesB
  refine View.canon_apply_of_pieces (Val := Elt Ideal) (S := S256x3072) (e := .fp8e4m3) (codesG g x) _ ?_ y ?_
  · intro p hp
    simp only [List.mem_cons, List.not_mem_nil, or_false] at hp
    rcases hp with rfl | rfl | rfl | rfl | rfl | rfl | rfl | rfl <;> exact fun i => piece_codes g x _ _ i
  · have h0 : (y 0).val < 256 := (y 0).isLt
    have h1 : (y 1).val < 3072 := (y 1).isLt
    have hk : (y 0).val / 32 = 7 ∨ (y 0).val / 32 = 6 ∨ (y 0).val / 32 = 5 ∨ (y 0).val / 32 = 4 ∨ (y 0).val / 32 = 3 ∨ (y 0).val / 32 = 2
        ∨ (y 0).val / 32 = 1 ∨ (y 0).val / 32 = 0 := by omega
    simp only [List.exists_mem_cons_iff, List.not_mem_nil, false_and, exists_false, or_false]
    refine hk.imp ?_ (Or.imp ?_ (Or.imp ?_ (Or.imp ?_ (Or.imp ?_ (Or.imp ?_ (Or.imp ?_ ?_)))))) <;>
    · intro h
      rw [Rect.mem_set_unit]
      intro a
      match a with
      | ⟨0, _⟩ => constructor <;> [show _ ≤ (y 0).val; show (y 0).val < _ + 32] <;> simp <;> omega
      | ⟨1, _⟩ => constructor <;> [show 0 ≤ (y 1).val; show (y 1).val < 0 + 3072] <;> omega

theorem piece_of (f : Vec Ideal S32x128 .f32) (G : S256x128.Idx → EReal) (o : ℕ)
    (inb' : ∀ a : Fin 2, (![o, 0] : Fin 2 → ℕ) a + S32x128.size a ≤ S256x128.size a)
    (h : ∀ i : S32x128.Idx, f i = G ((Rect.unit (s := S256x128) ![o, 0] S32x128.size inb').emb i))
    (i : (Rect.unit (s := S256x128) ![o, 0] S32x128.size inb').shape.Idx) :
    (⟨Rect.unit (s := S256x128) ![o, 0] S32x128.size inb', f⟩ : View.Piece (Elt Ideal) S256x128 .f32).2 i
      = G ((Rect.unit (s := S256x128) ![o, 0] S32x128.size inb').emb i) := h i

/-- The largest magnitudes of a block of 256 tokens, at an index. -/
theorem amaxB_apply (g : Vec Ideal S1x3072 .f32) (x : Vec Ideal S256x3072 .bf16) (y : S256x128.Idx) :
    amaxB g x y = amaxG g x y := by
  unfold amaxB
  refine View.canon_apply_of_pieces (Val := Elt Ideal) (S := S256x128) (e := .f32) (amaxG g x) _ ?_ y ?_
  · intro p hp
    simp only [List.mem_cons, List.not_mem_nil, or_false] at hp
    rcases hp with rfl | rfl | rfl | rfl | rfl | rfl | rfl | rfl
    · exact piece_of _ _ _ _ fun i => piece_lanes g x 224 inb_S256x3072_S32x3072_224_0 inb_S256x128_S32x128_224_0 i
    · exact piece_of _ _ _ _ fun i => piece_lanes g x 192 inb_S256x3072_S32x3072_192_0 inb_S256x128_S32x128_192_0 i
    · exact piece_of _ _ _ _ fun i => piece_lanes g x 160 inb_S256x3072_S32x3072_160_0 inb_S256x128_S32x128_160_0 i
    · exact piece_of _ _ _ _ fun i => piece_lanes g x 128 inb_S256x3072_S32x3072_128_0 inb_S256x128_S32x128_128_0 i
    · exact piece_of _ _ _ _ fun i => piece_lanes g x 96 inb_S256x3072_S32x3072_96_0 inb_S256x128_S32x128_96_0 i
    · exact piece_of _ _ _ _ fun i => piece_lanes g x 64 inb_S256x3072_S32x3072_64_0 inb_S256x128_S32x128_64_0 i
    · exact piece_of _ _ _ _ fun i => piece_lanes g x 32 inb_S256x3072_S32x3072_32_0 inb_S256x128_S32x128_32_0 i
    · exact piece_of _ _ _ _ fun i => piece_lanes g x 0 inb_S256x3072_S32x3072_0_0 inb_S256x128_S32x128_0_0 i
  · have h0 : (y 0).val < 256 := (y 0).isLt
    have h1 : (y 1).val < 128 := (y 1).isLt
    have hk : (y 0).val / 32 = 7 ∨ (y 0).val / 32 = 6 ∨ (y 0).val / 32 = 5 ∨ (y 0).val / 32 = 4 ∨ (y 0).val / 32 = 3 ∨ (y 0).val / 32 = 2
        ∨ (y 0).val / 32 = 1 ∨ (y 0).val / 32 = 0 := by omega
    simp only [List.exists_mem_cons_iff, List.not_mem_nil, false_and, exists_false, or_false]
    refine hk.imp ?_ (Or.imp ?_ (Or.imp ?_ (Or.imp ?_ (Or.imp ?_ (Or.imp ?_ (Or.imp ?_ ?_)))))) <;>
    · intro h
      rw [Rect.mem_set_unit]
      intro a
      match a with
      | ⟨0, _⟩ => constructor <;> [show _ ≤ (y 0).val; show (y 0).val < _ + 32] <;> simp <;> omega
      | ⟨1, _⟩ => constructor <;> [show 0 ≤ (y 1).val; show (y 1).val < 0 + 128] <;> omega

/-- The eight rows of scales, at an index. -/
theorem scale8_apply (a : Vec Ideal S256x128 .f32) (u : Fin 8) (n : Fin 256) (l : Fin 128) (hl : l.val = u.val) :
    scale8 a (ix2 u n) = Ideal.ofBits .f32 (Words.scaleWord (Words.field (a (ix2 n l) * Ideal.ofBits .f32 0x3B124925#32))) := by
  unfold scale8
  rw [scaleV_apply, fieldV_apply]
  unfold k0_pay80
  pointwise
  congr 6; exact Fin.ext hl.symm

/-- The row of scales that is stored, at an index. -/
theorem scalesRow_apply (a : Vec Ideal S256x128 .f32) (u : Fin 1) (n : Fin 256) :
    k0_pay83 (k0_pay80 a) (k0_pay81 a) 8388608#32 (ix2 u n)
      = Ideal.ofBits .f32 (Words.scaleWord (Words.field (a (ix2 n 0) * Ideal.ofBits .f32 0x3B124925#32))) := by
  unfold k0_pay83
  rw [scale8_eq]
  pointwise
  exact scale8_apply a 0 n 0 rfl

/-- The scaled projections of a block, at an index. -/
theorem yB_apply (a : Vec Ideal S256x128 .f32) (wt : Vec Ideal S1152x3072 .fp8e4m3) (cs : Vec Ideal S256x3072 .fp8e4m3)
    (ws : Vec Ideal S1152x128 .f32) (f : Fin 1152) (n : Fin 256) (l : Fin 128) (hl : l.val = n.val % 128) :
    yB a wt cs ws (ix2 f n) = (∑ k : Fin 3072, wt (ix2 f k) * cs (ix2 n k))
      * Ideal.ofBits .f32 (Words.scaleWord (Words.field (a (ix2 n 0) * Ideal.ofBits .f32 0x3B124925#32))) * ws (ix2 f l) := by
  unfold yB k0_pay84
  rw [scale8_eq]
  pointwise
  rw [scale8_apply a 0 n 0 rfl]
  congr 1
  by_cases h : n.val < 128
  · rw [dif_pos h]; congr 2; apply Fin.ext; show n.val = l.val; omega
  · rw [dif_neg h]; congr 2; apply Fin.ext; show n.val - 128 = l.val; omega

end Cert.KernelIdeal.Point
-- ==== Proof.Trig.lean ====
/- The kernel's cosines and sines read at an index, at the extended reals: the tables hold the cosines and sines of the
   two digits of a position, and the addition formulas put them together. -/
module

public import proofs.«01_k».proof.Proof.Point

@[expose] public section

set_option maxRecDepth 16384

noncomputable section

namespace Cert.KernelIdeal.Trig

open Cert.KernelIdeal.Gen Cert.KernelIdeal.Chunk
open Idealize.ShloMosaic Idealize.ShloMosaic.TcCoe Idealize.ShloMosaic.Tactic
open scoped BigOperators

/-- Reading a table along its lanes. -/
def takeV (tab : FVec Ideal S48x128 .f32) (idx : IVec S48x128 32) : FVec Ideal S48x128 .f32 :=
  dynamicGather 1 tab (shapeCast S48x128 (shapeCast S48x128x1
    (select (cmpi .slt idx (broadcast S48x128 0#32)) (addi idx (broadcast S48x128 128#32)) idx)
    shapeCasts_S48x128_S48x128x1) shapeCasts_S48x128x1_S48x128)

theorem takeV_apply (tab : FVec Ideal S48x128 .f32) (idx : IVec S48x128 32) (i : Fin 48) (l k : Fin 128)
    (hk : (idx (ix2 i l)).toNat = k.val) : takeV tab idx (ix2 i l) = tab (ix2 i k) := by
  have hs : ∀ j, shapeCast S48x128 (shapeCast S48x128x1 (select (cmpi .slt idx (broadcast S48x128 0#32)) (addi idx (broadcast S48x128 128#32)) idx)
      shapeCasts_S48x128_S48x128x1) shapeCasts_S48x128x1_S48x128 j
      = (select (cmpi .slt idx (broadcast S48x128 0#32)) (addi idx (broadcast S48x128 128#32)) idx) j := by
    intro j
    obtain ⟨a, b, rfl⟩ : ∃ (a : Fin 48) (b : Fin 128), j = ix2 a b := ⟨j 0, j 1, eq_ix2 j⟩
    refine (shapeCast_apply _ _ _ (ix3 a b (0 : Fin 1)) ?_).trans (shapeCast_apply _ _ _ _ ?_)
    · rw [Shape.rowMajor_val_two, Shape.rowMajor_val_three]; show (a.val * 128 + b.val) * 1 + 0 = a.val * 128 + b.val; omega
    · rw [Shape.rowMajor_val_two, Shape.rowMajor_val_three]; show a.val * 128 + b.val = (a.val * 128 + b.val) * 1 + 0; omega
  have hn : IntOp.cmpi .slt (idx (ix2 i l)) 0#32 = 0#1 := by
    unfold IntOp.cmpi
    have : BitVec.slt (idx (ix2 i l)) 0#32 = false := by
      rw [BitVec.slt_eq_decide, decide_eq_false_iff_not]
      have h1 : (idx (ix2 i l)).toInt = (idx (ix2 i l)).toNat := by
        apply BitVec.toInt_eq_toNat_of_lt; have := k.isLt; omega
      rw [h1]; simp
    simp only [this]; rfl
  unfold takeV
  rw [dynamicGather_apply]
  congr 1
  funext b; apply Fin.ext
  match b with
  | ⟨0, _⟩ => rfl
  | ⟨1, _⟩ =>
    show (shapeCast S48x128 (shapeCast S48x128x1 (select (cmpi .slt idx (broadcast S48x128 0#32)) (addi idx (broadcast S48x128 128#32)) idx)
      shapeCasts_S48x128_S48x128x1) shapeCasts_S48x128x1_S48x128 (ix2 i l)).toNat % 128 = k.val
    rw [hs]
    show (if IntOp.cmpi .slt (idx (ix2 i l)) 0#32 = 1#1 then _ else idx (ix2 i l)).toNat % 128 = k.val
    rw [hn, if_neg (by decide), hk]
    exact Nat.mod_eq_of_lt k.isLt

/-- The inverse frequency of a pair of coordinates. -/
def invf (i : ℕ) : EReal :=
  Ideal.div 1 (Ideal.pow (Ideal.ofBits .f32 0x461C4000#32)
    (Ideal.div (((i : ℝ) : EReal) * Ideal.ofBits .f32 0x40000000#32) (Ideal.ofBits .f32 0x42C00000#32)))

theorem ofBits_base : Ideal.ofBits .f32 0x461C4000#32 = ((10000 : ℝ) : EReal) := by
  show Ideal.ieee 8 23 (0x461C4000#32) = _
  unfold Ideal.ieee
  simp only [show (0x461C4000#32 : BitVec 32).extractLsb' (8 + 23) 1 = 0#1 by decide,
    show ((0x461C4000#32 : BitVec 32).extractLsb' 23 8).toNat = 140 by decide,
    show ((0x461C4000#32 : BitVec 32).extractLsb' 0 23).toNat = 1851392 by decide]
  norm_num

theorem ofBits_96 : Ideal.ofBits .f32 0x42C00000#32 = ((96 : ℝ) : EReal) := by
  show Ideal.ieee 8 23 (0x42C00000#32) = _
  unfold Ideal.ieee
  simp only [show (0x42C00000#32 : BitVec 32).extractLsb' (8 + 23) 1 = 0#1 by decide,
    show ((0x42C00000#32 : BitVec 32).extractLsb' 23 8).toNat = 133 by decide,
    show ((0x42C00000#32 : BitVec 32).extractLsb' 0 23).toNat = 4194304 by decide]
  norm_num

/-- An inverse frequency is a real number. -/
theorem invf_real (i : ℕ) : ∃ r : ℝ, invf i = (r : EReal) := by
  unfold invf
  rw [ofBits_base, ofBits_96, Words.ofBits_two, ← EReal.coe_mul, Ideal.div_coe (by norm_num)]
  rw [← EReal.coe_mul]
  have hp : (0 : ℝ) < Real.rpow 10000 ((i : ℝ) * 2 * (1 / 96)) := Real.rpow_pos_of_pos (by norm_num) _
  refine ⟨1 * (1 / Real.rpow 10000 ((i : ℝ) * 2 * (1 / 96))), ?_⟩
  show Ideal.div ((1 : ℝ) : EReal) ((Real.rpow 10000 ((i : ℝ) * 2 * (1 / 96)) : ℝ) : EReal) = _
  rw [Ideal.div_coe hp.ne', ← EReal.coe_mul]

/-- The angle of a position and a pair of coordinates. -/
def ang (z : ℤ) (i : ℕ) : EReal := ((z : ℝ) : EReal) * invf i

theorem toInt_small (n : ℕ) (h : n < 2 ^ 31) : (BitVec.ofNat 32 n).toInt = n := by
  rw [BitVec.toInt_ofNat']
  rw [Int.bmod_eq_of_le] <;> omega

theorem pay6_apply (i : Fin 48) (l : Fin 128) : k0_pay6 (F := Ideal) (ix2 i l) = invf i.val := by
  unfold k0_pay6
  pointwise
  show Ideal.div 1 (Ideal.pow _ (Ideal.div ((((BitVec.ofNat 32 i.val).toInt : ℝ) : EReal) * _) _)) = _
  rw [toInt_small _ (by have := i.isLt; omega)]
  rfl

theorem pay7_apply (i : Fin 48) (l : Fin 128) : k0_pay7 (F := Ideal) (ix2 i l) = ang l.val i.val := by
  unfold k0_pay7
  pointwise
  rw [pay6_apply]
  show (((BitVec.ofNat 32 l.val).toInt : ℝ) : EReal) * _ = _
  rw [toInt_small _ (by have := l.isLt; omega)]
  rfl

theorem pay8_apply (i : Fin 48) (l : Fin 128) : k0_pay8 (F := Ideal) (ix2 i l) = ang (l.val * 128) i.val := by
  unfold k0_pay8
  pointwise
  rw [pay6_apply]
  show (((BitVec.ofNat 32 l.val * 128#32).toInt : ℝ) : EReal) * _ = _
  rw [show BitVec.ofNat 32 l.val * 128#32 = BitVec.ofNat 32 (l.val * 128) from (BitVec.ofNat_mul ..).symm,
    toInt_small _ (by have := l.isLt; omega)]
  unfold ang
  push_cast
  rfl

theorem pay9_apply (i : Fin 48) (l : Fin 128) : k0_pay9 (F := Ideal) (ix3 0 i l) = Ideal.cos (ang l.val i.val) := by
  unfold k0_pay9
  pointwise
  rw [pay7_apply]

theorem pay10_apply (i : Fin 48) (l : Fin 128) : k0_pay10 (F := Ideal) (ix3 0 i l) = Ideal.sin (ang l.val i.val) := by
  unfold k0_pay10
  pointwise
  rw [pay7_apply]

theorem pay11_apply (i : Fin 48) (l : Fin 128) : k0_pay11 (F := Ideal) k0_pay8 (ix3 0 i l) = Ideal.cos (ang (l.val * 128) i.val) := by
  unfold k0_pay11
  pointwise
  rw [pay8_apply]

theorem pay12_apply (i : Fin 48) (l : Fin 128) : k0_pay12 (F := Ideal) k0_pay8 (ix3 0 i l) = Ideal.sin (ang (l.val * 128) i.val) := by
  unfold k0_pay12
  pointwise
  rw [pay8_apply]

theorem emb_tab (o : ℕ) (inb : ∀ a : Fin 3, (![o, 0, 0] : Fin 3 → ℕ) a + S1x48x128.size a ≤ S4x48x128.size a) (k : Fin 4) (hk : k.val = o)
    (i : Fin 48) (l : Fin 128) : (Rect.unit (s := S4x48x128) ![o, 0, 0] S1x48x128.size inb).emb (ix3 (0 : Fin 1) i l) = ix3 k i l := by
  funext a; apply Fin.ext
  refine (ValueKit.rect_emb_unit_val _ _ _ _ _).trans ?_
  match a with
  | ⟨0, _⟩ => exact hk.symm
  | ⟨1, _⟩ => exact Nat.zero_add _
  | ⟨2, _⟩ => exact Nat.zero_add _

theorem not_mem_tab (o : ℕ) (inb : ∀ a : Fin 3, (![o, 0, 0] : Fin 3 → ℕ) a + S1x48x128.size a ≤ S4x48x128.size a) (k : Fin 4) (hk : k.val ≠ o)
    (i : Fin 48) (l : Fin 128) : (ix3 k i l : S4x48x128.Idx) ∉ (Rect.unit (s := S4x48x128) ![o, 0, 0] S1x48x128.size inb).set := by
  rw [Rect.mem_set_unit]
  intro h
  have h0 := h 0
  have h1 : o ≤ k.val := h0.1
  have h2 : k.val < o + 1 := h0.2
  omega

theorem skip_tab (o : ℕ) (inb : ∀ a : Fin 3, (![o, 0, 0] : Fin 3 → ℕ) a + S1x48x128.size a ≤ S4x48x128.size a) (f : Vec Ideal S1x48x128 .f32)
    (L : List (View.Piece (Elt Ideal) S4x48x128 .f32)) (k : Fin 4) (hk : k.val ≠ o) (i : Fin 48) (l : Fin 128) :
    View.canon (⟨Rect.unit (s := S4x48x128) ![o, 0, 0] S1x48x128.size inb, f⟩ :: L) (ix3 k i l) = View.canon L (ix3 k i l) :=
  View.canon_cons_of_not_mem _ _ (not_mem_tab o inb k hk i l)

theorem hit_tab (o : ℕ) (inb : ∀ a : Fin 3, (![o, 0, 0] : Fin 3 → ℕ) a + S1x48x128.size a ≤ S4x48x128.size a) (f : Vec Ideal S1x48x128 .f32)
    (L : List (View.Piece (Elt Ideal) S4x48x128 .f32)) (k : Fin 4) (hk : k.val = o) (i : Fin 48) (l : Fin 128) :
    View.canon (⟨Rect.unit (s := S4x48x128) ![o, 0, 0] S1x48x128.size inb, f⟩ :: L) (ix3 k i l) = f (ix3 0 i l) := by
  rw [← emb_tab o inb k hk i l]
  exact View.canon_cons_emb _ _ _ _

theorem trigT_0 (i : Fin 48) (l : Fin 128) : trigT (F := Ideal) (ix3 0 i l) = Ideal.cos (ang l.val i.val) := by
  unfold trigT
  refine (skip_tab 3 inb_S4x48x128_S1x48x128_3_0_0 _ _ 0 (by decide) i l).trans ?_
  refine (skip_tab 2 inb_S4x48x128_S1x48x128_2_0_0 _ _ 0 (by decide) i l).trans ?_
  refine (skip_tab 1 inb_S4x48x128_S1x48x128_1_0_0 _ _ 0 (by decide) i l).trans ?_
  exact (hit_tab 0 inb_S4x48x128_S1x48x128_0_0_0 _ _ 0 rfl i l).trans (pay9_apply i l)

theorem trigT_1 (i : Fin 48) (l : Fin 128) : trigT (F := Ideal) (ix3 1 i l) = Ideal.sin (ang l.val i.val) := by
  unfold trigT
  refine (skip_tab 3 inb_S4x48x128_S1x48x128_3_0_0 _ _ 1 (by decide) i l).trans ?_
  refine (skip_tab 2 inb_S4x48x128_S1x48x128_2_0_0 _ _ 1 (by decide) i l).trans ?_
  exact (hit_tab 1 inb_S4x48x128_S1x48x128_1_0_0 _ _ 1 rfl i l).trans (pay10_apply i l)

theorem trigT_2 (i : Fin 48) (l : Fin 128) : trigT (F := Ideal) (ix3 2 i l) = Ideal.cos (ang (l.val * 128) i.val) := by
  unfold trigT
  refine (skip_tab 3 inb_S4x48x128_S1x48x128_3_0_0 _ _ 2 (by decide) i l).trans ?_
  exact (hit_tab 2 inb_S4x48x128_S1x48x128_2_0_0 _ _ 2 rfl i l).trans (pay11_apply i l)

theorem trigT_3 (i : Fin 48) (l : Fin 128) : trigT (F := Ideal) (ix3 3 i l) = Ideal.sin (ang (l.val * 128) i.val) := by
  unfold trigT
  exact (hit_tab 3 inb_S4x48x128_S1x48x128_3_0_0 _ _ 3 rfl i l).trans (pay12_apply i l)

theorem pay87_apply (t : Vec Ideal S1x48x128 .f32) (i : Fin 48) (l : Fin 128) : k0_pay87 t (ix2 i l) = t (ix3 0 i l) := by
  unfold k0_pay87
  pointwise

/-- A table read out of the four, at an index. -/
theorem tabs_apply (T : Vec Ideal S4x48x128 .f32) (i : Fin 48) (l : Fin 128) :
    k0_pay87 (tab0 T) (ix2 i l) = T (ix3 0 i l) ∧ k0_pay87 (tab1 T) (ix2 i l) = T (ix3 1 i l)
    ∧ k0_pay87 (tab2 T) (ix2 i l) = T (ix3 2 i l) ∧ k0_pay87 (tab3 T) (ix2 i l) = T (ix3 3 i l) := by
  refine ⟨?_, ?_, ?_, ?_⟩ <;> refine (pay87_apply _ i l).trans ?_
  · exact congrArg T (emb_tab 0 inb_S4x48x128_S1x48x128_0_0_0 0 rfl i l)
  · exact congrArg T (emb_tab 1 inb_S4x48x128_S1x48x128_1_0_0 1 rfl i l)
  · exact congrArg T (emb_tab 2 inb_S4x48x128_S1x48x128_2_0_0 2 rfl i l)
  · exact congrArg T (emb_tab 3 inb_S4x48x128_S1x48x128_3_0_0 3 rfl i l)

/-- The two digits of a position in range. -/
theorem digits (p : BitVec 32) (h0 : 0 ≤ p.toInt) (h1 : p.toInt < 16384) :
    (p &&& 127#32).toNat = p.toInt.toNat % 128 ∧ (IntOp.shrsi .vector p 7#32).toNat = p.toInt.toNat / 128 := by
  have hi : p.toInt = p.toNat := by
    have := BitVec.toInt_eq_toNat_cond p
    have hlt := p.isLt
    split_ifs at this <;> omega
  have hm : p.msb = false := by
    rw [BitVec.msb_eq_decide, decide_eq_false_iff_not]; omega
  constructor
  · rw [BitVec.toNat_and, hi]
    show p.toNat &&& 127 = _
    exact Nat.and_two_pow_sub_one_eq_mod p.toNat 7
  · unfold IntOp.shrsi
    rw [if_pos (by decide)]
    show (p.sshiftRight 7).toNat = _
    rw [BitVec.sshiftRight_eq_of_msb_false hm, BitVec.toNat_ushiftRight, Nat.shiftRight_eq_div_pow, hi]
    rfl

theorem idx_lo (q : Vec Ideal S1x128 .i32) (i : Fin 48) (l : Fin 128) :
    k0_pay85 (F := Ideal) q (ix2 i l) = q (ix2 0 l) &&& 127#32 := by
  unfold k0_pay85
  pointwise
  try rfl

theorem idx_hi (q : Vec Ideal S1x128 .i32) (i : Fin 48) (l : Fin 128) :
    k0_pay86 (F := Ideal) q (ix2 i l) = IntOp.shrsi .vector (q (ix2 0 l)) 7#32 := by
  unfold k0_pay86
  pointwise

/-- The cosines of one half of a block. -/
def cosH (q : Vec Ideal S1x128 .i32) (T : Vec Ideal S4x48x128 .f32) : FVec Ideal S48x128 .f32 :=
  subf (mulf (takeV (k0_pay87 (tab2 T)) (k0_pay86 (F := Ideal) q)) (takeV (k0_pay87 (tab0 T)) (k0_pay85 (F := Ideal) q)))
    (mulf (takeV (k0_pay87 (tab3 T)) (k0_pay86 (F := Ideal) q)) (takeV (k0_pay87 (tab1 T)) (k0_pay85 (F := Ideal) q)))
/-- The sines of one half of a block. -/
def sinH (q : Vec Ideal S1x128 .i32) (T : Vec Ideal S4x48x128 .f32) : FVec Ideal S48x128 .f32 :=
  addf (mulf (takeV (k0_pay87 (tab3 T)) (k0_pay86 (F := Ideal) q)) (takeV (k0_pay87 (tab0 T)) (k0_pay85 (F := Ideal) q)))
    (mulf (takeV (k0_pay87 (tab2 T)) (k0_pay86 (F := Ideal) q)) (takeV (k0_pay87 (tab1 T)) (k0_pay85 (F := Ideal) q)))

theorem angle_split (z : ℤ) (h0 : 0 ≤ z) (i : ℕ) (r : ℝ) (hr : invf i = (r : EReal)) :
    ang ((z.toNat / 128 : ℕ) * 128) i = ((((z.toNat / 128 : ℕ) : ℝ) * 128 * r : ℝ) : EReal)
    ∧ ang (z.toNat % 128 : ℕ) i = ((((z.toNat % 128 : ℕ) : ℝ) * r : ℝ) : EReal)
    ∧ ang z i = ((((z.toNat / 128 : ℕ) : ℝ) * 128 * r + ((z.toNat % 128 : ℕ) : ℝ) * r : ℝ) : EReal) := by
  unfold ang
  rw [hr]
  refine ⟨by push_cast; rfl, by push_cast; rfl, ?_⟩
  rw [← EReal.coe_mul]
  congr 1
  have h2 : z = ((z.toNat / 128 : ℕ) : ℤ) * 128 + ((z.toNat % 128 : ℕ) : ℤ) := by omega
  generalize z.toNat / 128 = A at h2 ⊢
  generalize z.toNat % 128 = B at h2 ⊢
  subst h2
  push_cast; ring

theorem halves_apply (q : Vec Ideal S1x128 .i32) (i : Fin 48) (l : Fin 128) (h0 : 0 ≤ (q (ix2 0 l)).toInt) (h1 : (q (ix2 0 l)).toInt < 16384) :
    cosH q trigT (ix2 i l) = Ideal.cos (ang (q (ix2 0 l)).toInt i.val) ∧ sinH q trigT (ix2 i l) = Ideal.sin (ang (q (ix2 0 l)).toInt i.val) := by
  obtain ⟨r, hr⟩ := invf_real i.val
  obtain ⟨d0, d1⟩ := digits _ h0 h1
  obtain ⟨a1, a2, a3⟩ := angle_split _ h0 i.val r hr
  have lo : (k0_pay85 (F := Ideal) q (ix2 i l)).toNat = (⟨(q (ix2 0 l)).toInt.toNat % 128, Nat.mod_lt _ (by norm_num)⟩ : Fin 128).val := by
    rw [idx_lo]; exact d0
  have hi : (k0_pay86 (F := Ideal) q (ix2 i l)).toNat = (⟨(q (ix2 0 l)).toInt.toNat / 128, by omega⟩ : Fin 128).val := by
    rw [idx_hi]; exact d1
  constructor
  · show takeV _ _ (ix2 i l) * takeV _ _ (ix2 i l) - takeV _ _ (ix2 i l) * takeV _ _ (ix2 i l) = _
    rw [takeV_apply _ _ i l _ lo, takeV_apply _ _ i l _ lo, takeV_apply _ _ i l _ hi, takeV_apply _ _ i l _ hi,
      (tabs_apply _ i _).1, (tabs_apply _ i _).2.1, (tabs_apply _ i _).2.2.1, (tabs_apply _ i _).2.2.2,
      trigT_0, trigT_1, trigT_2, trigT_3, a3]
    show Ideal.cos (ang _ _) * Ideal.cos (ang _ _) - Ideal.sin (ang _ _) * Ideal.sin (ang _ _) = _
    rw [a1, a2]
    show ((Real.cos _ : ℝ) : EReal) * ((Real.cos _ : ℝ) : EReal) - ((Real.sin _ : ℝ) : EReal) * ((Real.sin _ : ℝ) : EReal) = ((Real.cos _ : ℝ) : EReal)
    rw [← EReal.coe_mul, ← EReal.coe_mul, ← EReal.coe_sub, Real.cos_add]
  · show takeV _ _ (ix2 i l) * takeV _ _ (ix2 i l) + takeV _ _ (ix2 i l) * takeV _ _ (ix2 i l) = _
    rw [takeV_apply _ _ i l _ lo, takeV_apply _ _ i l _ lo, takeV_apply _ _ i l _ hi, takeV_apply _ _ i l _ hi,
      (tabs_apply _ i _).1, (tabs_apply _ i _).2.1, (tabs_apply _ i _).2.2.1, (tabs_apply _ i _).2.2.2,
      trigT_0, trigT_1, trigT_2, trigT_3, a3]
    show Ideal.sin (ang _ _) * Ideal.cos (ang _ _) + Ideal.cos (ang _ _) * Ideal.sin (ang _ _) = _
    rw [a1, a2]
    show ((Real.sin _ : ℝ) : EReal) * ((Real.cos _ : ℝ) : EReal) + ((Real.cos _ : ℝ) : EReal) * ((Real.sin _ : ℝ) : EReal) = ((Real.sin _ : ℝ) : EReal)
    rw [← EReal.coe_mul, ← EReal.coe_mul, ← EReal.coe_add, Real.sin_add]

theorem cosB_eq (p : Vec Ideal S1x256 .i32) (T : Vec Ideal S4x48x128 .f32) :
    cosB p T = concatenate S48x256 1 [⟨S48x128, cosH (pos0 p) T⟩, ⟨S48x128, cosH (pos1 p) T⟩] concatenates_S48x128_S48x128_S48x256_d1 := rfl
theorem sinB_eq (p : Vec Ideal S1x256 .i32) (T : Vec Ideal S4x48x128 .f32) :
    sinB p T = concatenate S48x256 1 [⟨S48x128, sinH (pos0 p) T⟩, ⟨S48x128, sinH (pos1 p) T⟩] concatenates_S48x128_S48x128_S48x256_d1 := rfl

theorem cat_apply (A B : FVec Ideal S48x128 .f32) (i : Fin 48) (n : Fin 256) :
    concatenate S48x256 1 [⟨S48x128, A⟩, ⟨S48x128, B⟩] concatenates_S48x128_S48x128_S48x256_d1 (ix2 i n)
      = if h : n.val < 128 then A (ix2 i ⟨n.val, h⟩) else B (ix2 i ⟨n.val - 128, by have := n.isLt; omega⟩) := by
  pointwise

theorem pos0_apply (p : Vec Ideal S1x256 .i32) (l : Fin 128) : pos0 p (ix2 0 l) = p (ix2 0 ⟨l.val, by have := l.isLt; omega⟩) := by
  unfold pos0
  show p _ = p _
  congr 1
  funext a; apply Fin.ext
  refine (Rect.idx_unit_val _ _ _ _ _).trans ?_
  match a with
  | ⟨0, _⟩ => rfl
  | ⟨1, _⟩ => exact Nat.zero_add _

theorem pos1_apply (p : Vec Ideal S1x256 .i32) (l : Fin 128) : pos1 p (ix2 0 l) = p (ix2 0 ⟨128 + l.val, by have := l.isLt; omega⟩) := by
  unfold pos1
  show p _ = p _
  congr 1
  funext a; apply Fin.ext
  refine (Rect.idx_unit_val _ _ _ _ _).trans ?_
  match a with
  | ⟨0, _⟩ => rfl
  | ⟨1, _⟩ => rfl

/-- The cosines and the sines of a block, at an index: those of the position times the inverse frequency. -/
theorem cosB_apply (p : Vec Ideal S1x256 .i32) (hp : ∀ n : Fin 256, 0 ≤ (p (ix2 0 n)).toInt ∧ (p (ix2 0 n)).toInt < 16384)
    (i : Fin 48) (n : Fin 256) :
    cosB p trigT (ix2 i n) = Ideal.cos (ang (p (ix2 0 n)).toInt i.val) ∧ sinB p trigT (ix2 i n) = Ideal.sin (ang (p (ix2 0 n)).toInt i.val) := by
  rw [cosB_eq, sinB_eq, cat_apply, cat_apply]
  by_cases h : n.val < 128
  · rw [dif_pos h, dif_pos h]
    have e := pos0_apply p ⟨n.val, h⟩
    have := halves_apply (pos0 p) i ⟨n.val, h⟩ (by rw [e]; exact (hp n).1) (by rw [e]; exact (hp n).2)
    rw [e] at this
    exact this
  · rw [dif_neg h, dif_neg h]
    have e := pos1_apply p ⟨n.val - 128, by have := n.isLt; omega⟩
    have e2 : (⟨128 + (n.val - 128), by have := n.isLt; omega⟩ : Fin 256) = n := Fin.ext (by show 128 + (n.val - 128) = n.val; omega)
    rw [e2] at e
    have := halves_apply (pos1 p) i ⟨n.val - 128, by have := n.isLt; omega⟩ (by rw [e]; exact (hp n).1) (by rw [e]; exact (hp n).2)
    rw [e] at this
    exact this

end Cert.KernelIdeal.Trig
-- ==== Proof.Rot.lean ====
/- The kernel's rotated queries and keys of a block, read at an index, at the extended reals. -/
module

public import proofs.«01_k».proof.Proof.Trig

@[expose] public section

set_option maxRecDepth 16384

noncomputable section

namespace Cert.KernelIdeal.Rot

open Cert.KernelIdeal.Gen Cert.KernelIdeal.Chunk
open Idealize.ShloMosaic Idealize.ShloMosaic.TcCoe Idealize.ShloMosaic.Tactic
open scoped BigOperators

theorem rotA_apply (y1 y2 C S : FVec Ideal S48x256 .f32) (a : Fin 6) (b : Fin 8) (n : Fin 256) (d : Fin 48) (hd : d.val = 8 * a.val + b.val) :
    rotA y1 y2 C S (ix3 a b n) = y1 (ix2 d n) * C (ix2 d n) - y2 (ix2 d n) * S (ix2 d n) := by
  unfold rotA
  refine (shapeCast_apply _ _ _ (ix2 d n) ?_).trans ?_
  · rw [Shape.rowMajor_val_two, Shape.rowMajor_val_three]; show d.val * 256 + n.val = (a.val * 8 + b.val) * 256 + n.val; omega
  · rfl

theorem rotB_apply (y1 y2 C S : FVec Ideal S48x256 .f32) (a : Fin 6) (b : Fin 8) (n : Fin 256) (d : Fin 48) (hd : d.val = 8 * a.val + b.val) :
    rotB y1 y2 C S (ix3 a b n) = y2 (ix2 d n) * C (ix2 d n) + y1 (ix2 d n) * S (ix2 d n) := by
  unfold rotB
  refine (shapeCast_apply _ _ _ (ix2 d n) ?_).trans ?_
  · rw [Shape.rowMajor_val_two, Shape.rowMajor_val_three]; show d.val * 256 + n.val = (a.val * 8 + b.val) * 256 + n.val; omega
  · rfl

/-- An entry of a two-axis array by numbers, nought outside. -/
def at2 {s : Fin 2 → ℕ} (y : (⟨2, s⟩ : Shape).Idx → EReal) (r n : ℕ) : EReal :=
  if h : r < s 0 ∧ n < s 1 then y (fun a => match a with | ⟨0, _⟩ => ⟨r, h.1⟩ | ⟨1, _⟩ => ⟨n, h.2⟩) else 0

theorem at2_ix {A B : ℕ} (y : (⟨2, ![A, B]⟩ : Shape).Idx → EReal) (r : Fin A) (n : Fin B) : at2 y r.val n.val = y (ix2 r n) := by
  unfold at2
  rw [dif_pos ⟨r.isLt, n.isLt⟩]
  congr 1
  funext a
  match a with
  | ⟨0, _⟩ => rfl
  | ⟨1, _⟩ => rfl

/-- The rotation's closed form: row `r` of a group of 384 starting at `base`, token `n`. -/
def rotAt (y : Vec Ideal S1152x256 .f32) (C S : Vec Ideal S48x256 .f32) (base r n : ℕ) : EReal :=
  if r % 96 < 48 then at2 y (base + r) n * at2 C (r % 96) n - at2 y (base + r + 48) n * at2 S (r % 96) n
  else at2 y (base + r) n * at2 C (r % 96 - 48) n + at2 y (base + r - 48) n * at2 S (r % 96 - 48) n

def rotG (y : Vec Ideal S1152x256 .f32) (C S : Vec Ideal S48x256 .f32) (base : ℕ) (i : S48x8x256.Idx) : EReal :=
  rotAt y C S base (8 * (i 0).val + (i 1).val) (i 2).val

theorem slice_at (y : Vec Ideal S1152x256 .f32) (o : ℕ) (h : S1152x256.Slices ![o, 0] S48x256) (d : Fin 48) (n : Fin 256) (ho : o + 48 ≤ 1152) :
    extractStridedSlice S48x256 ![o, 0] y h (ix2 d n) = at2 y (o + d.val) n.val := by
  have e : extractStridedSlice S48x256 ![o, 0] y h (ix2 d n) = y (ix2 (⟨o + d.val, by have := d.isLt; omega⟩ : Fin 1152) n) := by
    refine extractStridedSlice_apply _ _ _ _ _ ?_
    intro a
    match a with
    | ⟨0, _⟩ => rfl
    | ⟨1, _⟩ => exact (Nat.zero_add _).symm
  rw [e]
  exact (at2_ix y (⟨o + d.val, by have := d.isLt; omega⟩ : Fin 1152) n).symm

theorem piece_A (y : Vec Ideal S1152x256 .f32) (C S : Vec Ideal S48x256 .f32) (base hd : ℕ) (o1 o2 oo : ℕ) (h1 : S1152x256.Slices ![o1, 0] S48x256)
    (h2 : S1152x256.Slices ![o2, 0] S48x256) (inb : ∀ a : Fin 3, (![oo, 0, 0] : Fin 3 → ℕ) a + S6x8x256.size a ≤ S48x8x256.size a)
    (e1 : o1 = base + 96 * hd) (e2 : o2 = base + 96 * hd + 48) (e3 : oo = 12 * hd) (hh : hd < 4) (hb : base + 384 ≤ 1152) (i : S6x8x256.Idx) :
    rotA (F := Ideal) (extractStridedSlice S48x256 ![o1, 0] y h1) (extractStridedSlice S48x256 ![o2, 0] y h2) C S i
      = rotG y C S base ((Rect.unit (s := S48x8x256) ![oo, 0, 0] S6x8x256.size inb).emb i) := by
  obtain ⟨a, b, n, rfl⟩ : ∃ (a : Fin 6) (b : Fin 8) (n : Fin 256), i = ix3 a b n := ⟨i 0, i 1, i 2, eq_ix3 i⟩
  have ha := a.isLt
  have hb' := b.isLt
  rw [rotA_apply _ _ _ _ a b n ⟨8 * a.val + b.val, by omega⟩ rfl, slice_at y o1 h1 _ n (by omega), slice_at y o2 h2 _ n (by omega)]
  unfold rotG
  rw [ValueKit.rect_emb_unit_val, ValueKit.rect_emb_unit_val, ValueKit.rect_emb_unit_val]
  show _ = rotAt y C S base (8 * (oo + a.val) + (0 + b.val)) (0 + n.val)
  unfold rotAt
  have hr : (8 * (oo + a.val) + (0 + b.val)) % 96 = 8 * a.val + b.val := by omega
  rw [hr, if_pos (by omega), Nat.zero_add n.val, ← at2_ix C, ← at2_ix S]
  show at2 y (o1 + (8 * a.val + b.val)) _ * _ - at2 y (o2 + (8 * a.val + b.val)) _ * _ = _
  rw [show o1 + (8 * a.val + b.val) = base + (8 * (oo + a.val) + (0 + b.val)) by omega,
    show o2 + (8 * a.val + b.val) = base + (8 * (oo + a.val) + (0 + b.val)) + 48 by omega]

theorem piece_B (y : Vec Ideal S1152x256 .f32) (C S : Vec Ideal S48x256 .f32) (base hd : ℕ) (o1 o2 oo : ℕ) (h1 : S1152x256.Slices ![o1, 0] S48x256)
    (h2 : S1152x256.Slices ![o2, 0] S48x256) (inb : ∀ a : Fin 3, (![oo, 0, 0] : Fin 3 → ℕ) a + S6x8x256.size a ≤ S48x8x256.size a)
    (e1 : o1 = base + 96 * hd) (e2 : o2 = base + 96 * hd + 48) (e3 : oo = 12 * hd + 6) (hh : hd < 4) (hb : base + 384 ≤ 1152) (i : S6x8x256.Idx) :
    rotB (F := Ideal) (extractStridedSlice S48x256 ![o1, 0] y h1) (extractStridedSlice S48x256 ![o2, 0] y h2) C S i
      = rotG y C S base ((Rect.unit (s := S48x8x256) ![oo, 0, 0] S6x8x256.size inb).emb i) := by
  obtain ⟨a, b, n, rfl⟩ : ∃ (a : Fin 6) (b : Fin 8) (n : Fin 256), i = ix3 a b n := ⟨i 0, i 1, i 2, eq_ix3 i⟩
  have ha := a.isLt
  have hb' := b.isLt
  rw [rotB_apply _ _ _ _ a b n ⟨8 * a.val + b.val, by omega⟩ rfl, slice_at y o1 h1 _ n (by omega), slice_at y o2 h2 _ n (by omega)]
  unfold rotG
  rw [ValueKit.rect_emb_unit_val, ValueKit.rect_emb_unit_val, ValueKit.rect_emb_unit_val]
  show _ = rotAt y C S base (8 * (oo + a.val) + (0 + b.val)) (0 + n.val)
  unfold rotAt
  have hr : (8 * (oo + a.val) + (0 + b.val)) % 96 = 8 * a.val + b.val + 48 := by omega
  rw [hr, if_neg (by omega), Nat.zero_add n.val, Nat.add_sub_cancel, ← at2_ix C, ← at2_ix S]
  show at2 y (o2 + (8 * a.val + b.val)) _ * _ + at2 y (o1 + (8 * a.val + b.val)) _ * _ = _
  rw [show o2 + (8 * a.val + b.val) = base + (8 * (oo + a.val) + (0 + b.val)) by omega,
    show o1 + (8 * a.val + b.val) = base + (8 * (oo + a.val) + (0 + b.val)) - 48 by omega]

theorem piece_of (f : Vec Ideal S6x8x256 .bf16) (G : S48x8x256.Idx → EReal) (o : ℕ)
    (inb : ∀ a : Fin 3, (![o, 0, 0] : Fin 3 → ℕ) a + S6x8x256.size a ≤ S48x8x256.size a)
    (h : ∀ i : S6x8x256.Idx, f i = G ((Rect.unit (s := S48x8x256) ![o, 0, 0] S6x8x256.size inb).emb i))
    (i : (Rect.unit (s := S48x8x256) ![o, 0, 0] ![6, 8, 256] inb).shape.Idx) :
    (⟨Rect.unit (s := S48x8x256) ![o, 0, 0] ![6, 8, 256] inb, f⟩ : View.Piece (Elt Ideal) S48x8x256 .bf16).2 i
      = G ((Rect.unit (s := S48x8x256) ![o, 0, 0] ![6, 8, 256] inb).emb i) := h i

theorem mem_piece (o : ℕ) (inb : ∀ a : Fin 3, (![o, 0, 0] : Fin 3 → ℕ) a + S6x8x256.size a ≤ S48x8x256.size a) (i : S48x8x256.Idx)
    (h1 : o ≤ (i 0).val) (h2 : (i 0).val < o + 6) : i ∈ (Rect.unit (s := S48x8x256) ![o, 0, 0] ![6, 8, 256] inb).set := by
  have i1 : (i 1).val < 8 := (i 1).isLt
  have i2 : (i 2).val < 256 := (i 2).isLt
  rw [Rect.mem_set_unit]
  intro a
  match a with
  | ⟨0, _⟩ => exact ⟨h1, h2⟩
  | ⟨1, _⟩ => exact ⟨Nat.zero_le _, by show (i 1).val < 0 + 8; omega⟩
  | ⟨2, _⟩ => exact ⟨Nat.zero_le _, by show (i 2).val < 0 + 256; omega⟩

/-- The rotated queries of a block, at an index. -/
theorem qB_apply (y : Vec Ideal S1152x256 .f32) (C S : Vec Ideal S48x256 .f32) (i : S48x8x256.Idx) :
    qB (F := Ideal) y C S i = rotG y C S 0 i := by
  unfold qB
  refine View.canon_apply_of_pieces (Val := Elt Ideal) (S := S48x8x256) (e := .bf16) (rotG y C S 0) _ ?_ i ?_
  · intro p hp
    simp only [List.mem_cons, List.not_mem_nil, or_false] at hp
    rcases hp with rfl | rfl | rfl | rfl | rfl | rfl | rfl | rfl
    · exact piece_of _ _ _ _ fun j => piece_B y C S 0 3 _ _ _ _ _ _ (by norm_num) (by norm_num) (by norm_num) (by norm_num) (by norm_num) j
    · exact piece_of _ _ _ _ fun j => piece_A y C S 0 3 _ _ _ _ _ _ (by norm_num) (by norm_num) (by norm_num) (by norm_num) (by norm_num) j
    · exact piece_of _ _ _ _ fun j => piece_B y C S 0 2 _ _ _ _ _ _ (by norm_num) (by norm_num) (by norm_num) (by norm_num) (by norm_num) j
    · exact piece_of _ _ _ _ fun j => piece_A y C S 0 2 _ _ _ _ _ _ (by norm_num) (by norm_num) (by norm_num) (by norm_num) (by norm_num) j
    · exact piece_of _ _ _ _ fun j => piece_B y C S 0 1 _ _ _ _ _ _ (by norm_num) (by norm_num) (by norm_num) (by norm_num) (by norm_num) j
    · exact piece_of _ _ _ _ fun j => piece_A y C S 0 1 _ _ _ _ _ _ (by norm_num) (by norm_num) (by norm_num) (by norm_num) (by norm_num) j
    · exact piece_of _ _ _ _ fun j => piece_B y C S 0 0 _ _ _ _ _ _ (by norm_num) (by norm_num) (by norm_num) (by norm_num) (by norm_num) j
    · exact piece_of _ _ _ _ fun j => piece_A y C S 0 0 _ _ _ _ _ _ (by norm_num) (by norm_num) (by norm_num) (by norm_num) (by norm_num) j
  · have h0 : (i 0).val < 48 := (i 0).isLt
    have hk : (i 0).val / 6 = 7 ∨ (i 0).val / 6 = 6 ∨ (i 0).val / 6 = 5 ∨ (i 0).val / 6 = 4 ∨ (i 0).val / 6 = 3 ∨ (i 0).val / 6 = 2
        ∨ (i 0).val / 6 = 1 ∨ (i 0).val / 6 = 0 := by omega
    simp only [List.exists_mem_cons_iff, List.not_mem_nil, false_and, exists_false, or_false]
    refine hk.imp ?_ (Or.imp ?_ (Or.imp ?_ (Or.imp ?_ (Or.imp ?_ (Or.imp ?_ (Or.imp ?_ ?_)))))) <;>
    · intro h
      exact mem_piece _ _ i (by omega) (by omega)

/-- The rotated keys of a block, at an index. -/
theorem kB_apply (y : Vec Ideal S1152x256 .f32) (C S : Vec Ideal S48x256 .f32) (i : S48x8x256.Idx) :
    kB (F := Ideal) y C S i = rotG y C S 384 i := by
  unfold kB
  refine View.canon_apply_of_pieces (Val := Elt Ideal) (S := S48x8x256) (e := .bf16) (rotG y C S 384) _ ?_ i ?_
  · intro p hp
    simp only [List.mem_cons, List.not_mem_nil, or_false] at hp
    rcases hp with rfl | rfl | rfl | rfl | rfl | rfl | rfl | rfl
    · exact piece_of _ _ _ _ fun j => piece_B y C S 384 3 _ _ _ _ _ _ (by norm_num) (by norm_num) (by norm_num) (by norm_num) (by norm_num) j
    · exact piece_of _ _ _ _ fun j => piece_A y C S 384 3 _ _ _ _ _ _ (by norm_num) (by norm_num) (by norm_num) (by norm_num) (by norm_num) j
    · exact piece_of _ _ _ _ fun j => piece_B y C S 384 2 _ _ _ _ _ _ (by norm_num) (by norm_num) (by norm_num) (by norm_num) (by norm_num) j
    · exact piece_of _ _ _ _ fun j => piece_A y C S 384 2 _ _ _ _ _ _ (by norm_num) (by norm_num) (by norm_num) (by norm_num) (by norm_num) j
    · exact piece_of _ _ _ _ fun j => piece_B y C S 384 1 _ _ _ _ _ _ (by norm_num) (by norm_num) (by norm_num) (by norm_num) (by norm_num) j
    · exact piece_of _ _ _ _ fun j => piece_A y C S 384 1 _ _ _ _ _ _ (by norm_num) (by norm_num) (by norm_num) (by norm_num) (by norm_num) j
    · exact piece_of _ _ _ _ fun j => piece_B y C S 384 0 _ _ _ _ _ _ (by norm_num) (by norm_num) (by norm_num) (by norm_num) (by norm_num) j
    · exact piece_of _ _ _ _ fun j => piece_A y C S 384 0 _ _ _ _ _ _ (by norm_num) (by norm_num) (by norm_num) (by norm_num) (by norm_num) j
  · have h0 : (i 0).val < 48 := (i 0).isLt
    have hk : (i 0).val / 6 = 7 ∨ (i 0).val / 6 = 6 ∨ (i 0).val / 6 = 5 ∨ (i 0).val / 6 = 4 ∨ (i 0).val / 6 = 3 ∨ (i 0).val / 6 = 2
        ∨ (i 0).val / 6 = 1 ∨ (i 0).val / 6 = 0 := by omega
    simp only [List.exists_mem_cons_iff, List.not_mem_nil, false_and, exists_false, or_false]
    refine hk.imp ?_ (Or.imp ?_ (Or.imp ?_ (Or.imp ?_ (Or.imp ?_ (Or.imp ?_ (Or.imp ?_ ?_)))))) <;>
    · intro h
      exact mem_piece _ _ i (by omega) (by omega)

/-- The values of a block, at an index. -/
theorem v_apply (y : Vec Ideal S1152x256 .f32) (i : S48x8x256.Idx) :
    k0_pay3 (F := Ideal) y i = at2 y (768 + (8 * (i 0).val + (i 1).val)) (i 2).val := by
  obtain ⟨a, b, n, rfl⟩ : ∃ (a : Fin 48) (b : Fin 8) (n : Fin 256), i = ix3 a b n := ⟨i 0, i 1, i 2, eq_ix3 i⟩
  have ha := a.isLt
  have hb' := b.isLt
  unfold k0_pay3
  refine (shapeCast_apply _ _ _ (ix2 (⟨8 * a.val + b.val, by omega⟩ : Fin 384) n) ?_).trans ?_
  · rw [Shape.rowMajor_val_two, Shape.rowMajor_val_three]; show (8 * a.val + b.val) * 256 + n.val = (a.val * 8 + b.val) * 256 + n.val; omega
  · refine Eq.trans ?_ (at2_ix y (⟨768 + (8 * a.val + b.val), by omega⟩ : Fin 1152) n).symm
    refine extractStridedSlice_apply (s := S1152x256) (t := S384x256) ![768, 0] y slices_S1152x256_o768_0_S384x256 _ _ ?_
    intro c
    match c with
    | ⟨0, _⟩ => rfl
    | ⟨1, _⟩ => exact (Nat.zero_add _).symm

end Cert.KernelIdeal.Rot
-- ==== Proof.Spec.lean ====
/- The five results, entry by entry, as functions of the five argument arrays alone: no program is named here. -/
module

public import proofs.«01_k».proof.Proof.Trig

@[expose] public section

set_option maxRecDepth 16384

noncomputable section

namespace Cert.KernelIdeal.Spec

open Idealize.ShloMosaic Idealize.ShloMosaic.TcCoe
open scoped BigOperators

/-- The five arguments: the rows, the norm's gain, the quantised weights, their scales, the positions. -/
structure Args where
  x : Fin 8192 → Fin 3072 → EReal
  g : Fin 3072 → EReal
  w : Fin 3072 → Fin 1152 → EReal
  ws : Fin 1152 → EReal
  p : Fin 8192 → BitVec 32

/-- What the claim assumes of them: the gain is at most the largest finite number in size, the positions lie in the table. -/
structure Args.Ok (A : Args) : Prop where
  g : ∀ j, max (A.g j) (-A.g j) ≤ Ideal.ofBits .f32 0x7F7FFFFF#32
  p : ∀ n, 0 ≤ (A.p n).toInt ∧ (A.p n).toInt < 16384

/-- A code. -/
def code (A : Args) (n : Fin 8192) (k : Fin 3072) : EReal := Rows.code (Point.invOf A.g (A.x n)) A.g (A.x n) k

/-- A row's scale. -/
def scale (A : Args) (n : Fin 8192) : EReal := Point.scaleOf A.g (A.x n)

/-- A rescaled product: feature `f` of token `n`. -/
def y (A : Args) (f : ℕ) (n : Fin 8192) : EReal :=
  if h : f < 1152 then (∑ k, A.w k ⟨f, h⟩ * code A n k) * scale A n * A.ws ⟨f, h⟩ else 0

/-- The rotated features from `base` on: the two halves of each head of 96 turned by the position's angles. -/
def rot (A : Args) (base r : ℕ) (n : Fin 8192) : EReal :=
  if r % 96 < 48 then
    y A (base + r) n * Ideal.cos (Trig.ang (A.p n).toInt (r % 96)) - y A (base + r + 48) n * Ideal.sin (Trig.ang (A.p n).toInt (r % 96))
  else
    y A (base + r) n * Ideal.cos (Trig.ang (A.p n).toInt (r % 96 - 48)) + y A (base + r - 48) n * Ideal.sin (Trig.ang (A.p n).toInt (r % 96 - 48))

/-- Result 1: the queries, rotated, by token, head and feature. -/
def queries (A : Args) (i : (⟨4, ![1, 8192, 4, 96]⟩ : Shape).Idx) : EReal := rot A 0 (96 * (i 2).val + (i 3).val) (i 1)
/-- Result 2: the keys, rotated. -/
def keys (A : Args) (i : (⟨4, ![1, 8192, 4, 96]⟩ : Shape).Idx) : EReal := rot A 384 (96 * (i 2).val + (i 3).val) (i 1)
/-- Result 3: the values. -/
def values (A : Args) (i : (⟨4, ![1, 8192, 4, 96]⟩ : Shape).Idx) : EReal := y A (768 + (96 * (i 2).val + (i 3).val)) (i 1)
/-- Result 4: the codes. -/
def codes (A : Args) (i : (⟨3, ![1, 8192, 3072]⟩ : Shape).Idx) : EReal := code A (i 1) (i 2)
/-- Result 5: the rows' scales. -/
def scales (A : Args) (i : (⟨3, ![1, 8192, 1]⟩ : Shape).Idx) : EReal := scale A (i 1)

end Cert.KernelIdeal.Spec
end
-- ==== Proof.Region.lean ====
/- What each grid point reads and leaves, as entries of the argument arrays. -/
module

public import proofs.«01_k».proof.Proof.Open
public import proofs.«01_k».proof.Proof.Rot
public import proofs.«01_k».proof.Proof.Spec

@[expose] public section

set_option maxRecDepth 16384

noncomputable section

namespace Cert.KernelIdeal.Region

open Cert.KernelIdeal.Gen
open Idealize.ShloMosaic Idealize.ShloMosaic.TcCoe Idealize.ShloMosaic.Tactic
open Idealize.ShloMosaic.Pipeline (Dat Cfg Window)
open scoped BigOperators

variable (m : (ℓ : Loc nD τ sig) → Buf (Elt Ideal) ℓ) (c : Dev nD)

/-- The kernel's arguments on a device. -/
def args : Spec.Args where
  x := fun n k => m ((c : Thread nD τ).loc main_arg0) (ix3 0 n k)
  g := fun k => m ((c : Thread nD τ).loc main_arg1) (ix1 k)
  w := fun k f => m ((c : Thread nD τ).loc main_arg2) (ix2 k f)
  ws := fun f => m ((c : Thread nD τ).loc main_arg3) (ix1 f)
  p := fun n => m ((c : Thread nD τ).loc main_arg4) (ix2 0 n)

/-- Row `r` of point `t`'s block, in the whole array. -/
def row (t : Fin cfg0.N) (r : Fin 256) : Fin 8192 := ⟨256 * t.val + r.val, by have : t.val < 32 := lt_of_lt_of_eq t.isLt N_0; omega⟩

theorem V_v0 (n : Fin 8192) (k : Fin 3072) : V m c main_v0 (ix2 n k) = (args m c).x n k := by
  have h : V m c main_v0 = shapeCast (s := S1x8192x3072) S8192x3072 (m ((c : Thread nD τ).loc main_arg0)) := by
    unfold V V0; simp only [hostOps0, List.flatten_cons, List.flatten_nil, List.append_nil]; after_results; rfl
  rw [h]
  refine shapeCast_apply _ _ _ (ix3 0 n k) ?_
  rw [Shape.rowMajor_val_two, Shape.rowMajor_val_three]; show (0 * 8192 + n.val) * 3072 + k.val = n.val * 3072 + k.val; omega

theorem V_v1 (k : Fin 3072) : V m c main_v1 (ix2 0 k) = (args m c).g k := by
  have h : V m c main_v1 = shapeCast (s := S3072) S1x3072 (m ((c : Thread nD τ).loc main_arg1)) := by
    unfold V V0; simp only [hostOps0, List.flatten_cons, List.flatten_nil, List.append_nil]; after_results; rfl
  rw [h]
  refine shapeCast_apply _ _ _ (ix1 k) ?_
  rw [Shape.rowMajor_val_two, Shape.rowMajor_val_one]; show k.val = 0 * 3072 + k.val; omega

theorem V_v2 (f : Fin 1152) : V m c main_v2 (ix2 0 f) = (args m c).ws f := by
  have h : V m c main_v2 = shapeCast (s := S1152) S1x1152 (m ((c : Thread nD τ).loc main_arg3)) := by
    unfold V V0; simp only [hostOps0, List.flatten_cons, List.flatten_nil, List.append_nil]; after_results; rfl
  rw [h]
  refine shapeCast_apply _ _ _ (ix1 f) ?_
  rw [Shape.rowMajor_val_two, Shape.rowMajor_val_one]; show f.val = 0 * 1152 + f.val; omega

theorem off0 : ∀ t : Fin grid0.N, win0_0.index t 0 * win0_0.size 0 = 256 * t.val ∧ win0_0.index t 1 * win0_0.size 1 = 0 := by decide +kernel
theorem off1 : ∀ t : Fin grid0.N, win0_1.index t 0 * win0_1.size 0 = 0 ∧ win0_1.index t 1 * win0_1.size 1 = 0 := by decide +kernel
theorem off2 : ∀ t : Fin grid0.N, win0_2.index t 0 * win0_2.size 0 = 0 ∧ win0_2.index t 1 * win0_2.size 1 = 0 := by decide +kernel
theorem off3 : ∀ t : Fin grid0.N, win0_3.index t 0 * win0_3.size 0 = 0 ∧ win0_3.index t 1 * win0_3.size 1 = 0 := by decide +kernel
theorem off4 : ∀ t : Fin grid0.N, win0_4.index t 0 * win0_4.size 0 = 0 ∧ win0_4.index t 1 * win0_4.size 1 = 256 * t.val := by decide +kernel

theorem iblk0 (t : Fin cfg0.N) (r : Fin 256) (k : Fin 3072) : iblk m c 0 t (ix2 r k) = (args m c).x (row t r) k := by
  refine Eq.trans ?_ (V_v0 m c (row t r) k)
  show V m c main_v0 (((View.whole main_v0).slice (win0_0.rect t)).emb (ix2 r k)) = V m c main_v0 (ix2 (row t r) k)
  refine congrArg _ (funext fun a => Fin.ext ?_)
  match a with
  | ⟨0, h⟩ => exact (ValueKit.view_emb_slice_whole_unit_val _ _ _ _ _ _).trans (congrArg (· + r.val) (off0 t).1)
  | ⟨1, h⟩ => exact (ValueKit.view_emb_slice_whole_unit_val _ _ _ _ _ _).trans ((congrArg (· + k.val) (off0 t).2).trans (Nat.zero_add _))

theorem iblk1 (t : Fin cfg0.N) (k : Fin 3072) : iblk m c 1 t (ix2 0 k) = (args m c).g k := by
  refine Eq.trans ?_ (V_v1 m c k)
  show V m c main_v1 (((View.whole main_v1).slice (win0_1.rect t)).emb (ix2 0 k)) = V m c main_v1 (ix2 0 k)
  refine congrArg _ (funext fun a => Fin.ext ?_)
  match a with
  | ⟨0, h⟩ => exact (ValueKit.view_emb_slice_whole_unit_val _ _ _ _ _ _).trans ((congrArg (· + 0) (off1 t).1).trans (Nat.zero_add _))
  | ⟨1, h⟩ => exact (ValueKit.view_emb_slice_whole_unit_val _ _ _ _ _ _).trans ((congrArg (· + k.val) (off1 t).2).trans (Nat.zero_add _))

theorem iblk2 (t : Fin cfg0.N) (k : Fin 3072) (f : Fin 1152) : iblk m c 2 t (ix2 k f) = (args m c).w k f := by
  refine Eq.trans ?_ (congrFun (V_main_arg2 m c) (ix2 k f))
  show V m c main_arg2 (((View.whole main_arg2).slice (win0_2.rect t)).emb (ix2 k f)) = V m c main_arg2 (ix2 k f)
  refine congrArg _ (funext fun a => Fin.ext ?_)
  match a with
  | ⟨0, h⟩ => exact (ValueKit.view_emb_slice_whole_unit_val _ _ _ _ _ _).trans ((congrArg (· + k.val) (off2 t).1).trans (Nat.zero_add _))
  | ⟨1, h⟩ => exact (ValueKit.view_emb_slice_whole_unit_val _ _ _ _ _ _).trans ((congrArg (· + f.val) (off2 t).2).trans (Nat.zero_add _))

theorem iblk3 (t : Fin cfg0.N) (f : Fin 1152) : iblk m c 3 t (ix2 0 f) = (args m c).ws f := by
  refine Eq.trans ?_ (V_v2 m c f)
  show V m c main_v2 (((View.whole main_v2).slice (win0_3.rect t)).emb (ix2 0 f)) = V m c main_v2 (ix2 0 f)
  refine congrArg _ (funext fun a => Fin.ext ?_)
  match a with
  | ⟨0, h⟩ => exact (ValueKit.view_emb_slice_whole_unit_val _ _ _ _ _ _).trans ((congrArg (· + 0) (off3 t).1).trans (Nat.zero_add _))
  | ⟨1, h⟩ => exact (ValueKit.view_emb_slice_whole_unit_val _ _ _ _ _ _).trans ((congrArg (· + f.val) (off3 t).2).trans (Nat.zero_add _))

theorem iblk4 (t : Fin cfg0.N) (r : Fin 256) : iblk m c 4 t (ix2 0 r) = (args m c).p (row t r) := by
  refine Eq.trans ?_ (congrFun (V_main_arg4 m c) (ix2 0 (row t r)))
  show V m c main_arg4 (((View.whole main_arg4).slice (win0_4.rect t)).emb (ix2 0 r)) = V m c main_arg4 (ix2 0 (row t r))
  refine congrArg _ (funext fun a => Fin.ext ?_)
  match a with
  | ⟨0, h⟩ => exact (ValueKit.view_emb_slice_whole_unit_val _ _ _ _ _ _).trans ((congrArg (· + 0) (off4 t).1).trans (Nat.zero_add _))
  | ⟨1, h⟩ => exact (ValueKit.view_emb_slice_whole_unit_val _ _ _ _ _ _).trans (congrArg (· + r.val) (off4 t).2)

/-- The weights' block, transposed, is the same at every point, -/
theorem pay4_eq (t : Fin cfg0.N) (f : Fin 1152) (k : Fin 3072) : k0_pay4 (F := Ideal) (iblk m c 2 t) (ix2 f k) = (args m c).w k f := by
  refine Eq.trans ?_ (iblk2 m c t k f)
  generalize iblk m c 2 t = z
  unfold k0_pay4; pointwise

/-- and so are the weights' scales, broadcast over the lanes. -/
theorem pay5_eq (t : Fin cfg0.N) (f : Fin 1152) (l : Fin 128) : k0_pay5 (F := Ideal) (iblk m c 3 t) (ix2 f l) = (args m c).ws f := by
  refine Eq.trans ?_ (iblk3 m c t f)
  generalize iblk m c 3 t = z
  unfold k0_pay5; pointwise

/-- The scratch tables after every point: the transposed weights, the broadcast scales, the table of angles. -/
theorem scratch (n : ℕ) (hn : n < cfg0.N) :
    (∀ f k, (outsAt0 m c n hn).2.2.2.2.2.1 (ix2 f k) = (args m c).w k f)
    ∧ (∀ f l, (outsAt0 m c n hn).2.2.2.2.2.2.1 (ix2 f l) = (args m c).ws f)
    ∧ (outsAt0 m c n hn).2.2.2.2.2.2.2 = Chunk.trigT := by
  induction n with
  | zero =>
    refine ⟨fun f k => ?_, fun f l => ?_, atA_s2 m c ⟨0, hn⟩ rfl⟩
    · exact (congrFun (atA_s0 m c ⟨0, hn⟩ rfl) (ix2 f k)).trans (pay4_eq m c _ f k)
    · exact (congrFun (atA_s1 m c ⟨0, hn⟩ rfl) (ix2 f l)).trans (pay5_eq m c _ f l)
  | succ n ih =>
    have ih := ih (Nat.lt_of_succ_lt hn)
    have hN : cfg0.N = 32 := N_0
    have h0 : ¬ (n + 1) % 32 = 0 := by omega
    refine ⟨fun f k => ?_, fun f l => ?_, (atB_s2 m c ⟨n + 1, hn⟩ h0).trans ih.2.2⟩
    · exact (congrFun (atB_s0 m c ⟨n + 1, hn⟩ h0) (ix2 f k)).trans (ih.1 f k)
    · exact (congrFun (atB_s1 m c ⟨n + 1, hn⟩ h0) (ix2 f l)).trans (ih.2.1 f l)

/-- A point's largest values, -/
theorem amax_eq (t : Fin cfg0.N) (n : Fin 256) (z : Fin 128) :
    Chunk.amaxB (F := Ideal) (iblk m c 1 t) (iblk m c 0 t) (ix2 n z) = Rows.amax (args m c).g ((args m c).x (row t n)) := by
  rw [Point.amaxB_apply]
  show Rows.amax (fun k => iblk m c 1 t (ix2 0 k)) (fun k => iblk m c 0 t (ix2 n k)) = _
  exact congrArg₂ Rows.amax (funext fun k => iblk1 m c t k) (funext fun k => iblk0 m c t n k)

/-- its codes, -/
theorem codes_eq (t : Fin cfg0.N) (n : Fin 256) (k : Fin 3072) :
    Chunk.codesB (F := Ideal) (iblk m c 1 t) (iblk m c 0 t) (ix2 n k) = Spec.code (args m c) (row t n) k := by
  rw [Point.codesB_apply]
  show Rows.code (Point.invOf (fun k => iblk m c 1 t (ix2 0 k)) (fun k => iblk m c 0 t (ix2 n k))) (fun k => iblk m c 1 t (ix2 0 k)) (fun k => iblk m c 0 t (ix2 n k)) k = _
  rw [show (fun k => iblk m c 1 t (ix2 0 k)) = (args m c).g from funext fun k => iblk1 m c t k,
    show (fun k => iblk m c 0 t (ix2 n k)) = (args m c).x (row t n) from funext fun k => iblk0 m c t n k]
  rfl

/-- its rescaled products, -/
theorem y_eq (t : Fin cfg0.N) (wt : Vec Ideal S1152x3072 .bf16) (wsc : Vec Ideal S1152x128 .f32)
    (hw : ∀ f k, wt (ix2 f k) = (args m c).w k f) (hs : ∀ f l, wsc (ix2 f l) = (args m c).ws f) (f : ℕ) (n : Fin 256) :
    Rot.at2 (Chunk.yB (F := Ideal) (Chunk.amaxB (iblk m c 1 t) (iblk m c 0 t)) wt (Chunk.codesB (iblk m c 1 t) (iblk m c 0 t)) wsc) f n.val
      = Spec.y (args m c) f (row t n) := by
  unfold Spec.y
  split
  · rename_i h
    refine (Rot.at2_ix _ (⟨f, h⟩ : Fin 1152) n).trans ?_
    rw [Point.yB_apply _ _ _ _ ⟨f, h⟩ n ⟨n.val % 128, Nat.mod_lt _ (by decide)⟩ rfl, amax_eq, hs]
    simp only [hw, codes_eq]
    rfl
  · rename_i h
    unfold Rot.at2; exact dif_neg fun q => h q.1

/-- and how the five outputs of any point are built from them. -/
theorem shape (t : Fin cfg0.N) : ∃ (wt : Vec Ideal S1152x3072 .bf16) (wsc : Vec Ideal S1152x128 .f32),
    (∀ f k, wt (ix2 f k) = (args m c).w k f) ∧ (∀ f l, wsc (ix2 f l) = (args m c).ws f)
    ∧ (outsAt0 m c t.val t.isLt).1 = Chunk.qB (Chunk.yB (Chunk.amaxB (iblk m c 1 t) (iblk m c 0 t)) wt (Chunk.codesB (iblk m c 1 t) (iblk m c 0 t)) wsc) (Chunk.cosB (iblk m c 4 t) Chunk.trigT) (Chunk.sinB (iblk m c 4 t) Chunk.trigT)
    ∧ (outsAt0 m c t.val t.isLt).2.1 = Chunk.kB (Chunk.yB (Chunk.amaxB (iblk m c 1 t) (iblk m c 0 t)) wt (Chunk.codesB (iblk m c 1 t) (iblk m c 0 t)) wsc) (Chunk.cosB (iblk m c 4 t) Chunk.trigT) (Chunk.sinB (iblk m c 4 t) Chunk.trigT)
    ∧ (outsAt0 m c t.val t.isLt).2.2.1 = k0_pay3 (Chunk.yB (Chunk.amaxB (iblk m c 1 t) (iblk m c 0 t)) wt (Chunk.codesB (iblk m c 1 t) (iblk m c 0 t)) wsc)
    ∧ (outsAt0 m c t.val t.isLt).2.2.2.1 = Chunk.codesB (iblk m c 1 t) (iblk m c 0 t)
    ∧ (outsAt0 m c t.val t.isLt).2.2.2.2.1 = k0_pay83 (k0_pay80 (Chunk.amaxB (iblk m c 1 t) (iblk m c 0 t))) (k0_pay81 (Chunk.amaxB (iblk m c 1 t) (iblk m c 0 t))) 8388608#32 := by
  by_cases h0 : t.val % 32 = 0
  · exact ⟨_, _, pay4_eq m c t, pay5_eq m c t, atA_5 m c t h0, atA_6 m c t h0, atA_7 m c t h0, atA_8 m c t h0, atA_9 m c t h0⟩
  · have hs := scratch m c (t.val - 1) (Nat.lt_of_le_of_lt (Nat.sub_le _ _) t.isLt)
    refine ⟨_, _, hs.1, hs.2.1, (atB_5 m c t h0).trans ?_, (atB_6 m c t h0).trans ?_, atB_7 m c t h0, atB_8 m c t h0, atB_9 m c t h0⟩
    · rw [hs.2.2]
    · rw [hs.2.2]

/-- The rotation of a point's features. -/
theorem rot_eq (hA : (args m c).Ok) (t : Fin cfg0.N) (y : Vec Ideal S1152x256 .f32)
    (hy : ∀ f (n : Fin 256), Rot.at2 y f n.val = Spec.y (args m c) f (row t n)) (base r : ℕ) (n : Fin 256) :
    Rot.rotAt y (Chunk.cosB (F := Ideal) (iblk m c 4 t) Chunk.trigT) (Chunk.sinB (F := Ideal) (iblk m c 4 t) Chunk.trigT) base r n.val
      = Spec.rot (args m c) base r (row t n) := by
  have hp : ∀ n : Fin 256, 0 ≤ (iblk m c 4 t (ix2 0 n)).toInt ∧ (iblk m c 4 t (ix2 0 n)).toInt < 16384 := by
    intro n; rw [iblk4]; exact hA.p _
  have hc : ∀ d : ℕ, d < 48 → Rot.at2 (Chunk.cosB (F := Ideal) (iblk m c 4 t) Chunk.trigT) d n.val = Ideal.cos (Trig.ang ((args m c).p (row t n)).toInt d)
      ∧ Rot.at2 (Chunk.sinB (F := Ideal) (iblk m c 4 t) Chunk.trigT) d n.val = Ideal.sin (Trig.ang ((args m c).p (row t n)).toInt d) := by
    intro d hd
    have e := Trig.cosB_apply (iblk m c 4 t) hp ⟨d, hd⟩ n
    rw [iblk4] at e
    exact ⟨(Rot.at2_ix _ (⟨d, hd⟩ : Fin 48) n).trans e.1, (Rot.at2_ix _ (⟨d, hd⟩ : Fin 48) n).trans e.2⟩
  unfold Rot.rotAt Spec.rot
  have h96 : r % 96 < 96 := Nat.mod_lt _ (by decide)
  split
  · rename_i h; rw [hy, hy, (hc _ h).1, (hc _ h).2]
  · rename_i h; rw [hy, hy, (hc (r % 96 - 48) (by omega)).1, (hc (r % 96 - 48) (by omega)).2]

/-- Output 5 after a point: the rotated queries, -/
theorem out5 (hA : (args m c).Ok) (t : Fin cfg0.N) (a : Fin 48) (b : Fin 8) (n : Fin 256) :
    (outsAt0 m c t.val t.isLt).1 (ix3 a b n) = Spec.rot (args m c) 0 (8 * a.val + b.val) (row t n) := by
  obtain ⟨wt, wsc, hw, hs, h5, -⟩ := shape m c t
  rw [h5, Rot.qB_apply]
  exact rot_eq m c hA t _ (y_eq m c t wt wsc hw hs) 0 _ n

/-- output 6: the rotated keys, -/
theorem out6 (hA : (args m c).Ok) (t : Fin cfg0.N) (a : Fin 48) (b : Fin 8) (n : Fin 256) :
    (outsAt0 m c t.val t.isLt).2.1 (ix3 a b n) = Spec.rot (args m c) 384 (8 * a.val + b.val) (row t n) := by
  obtain ⟨wt, wsc, hw, hs, -, h6, -⟩ := shape m c t
  rw [h6, Rot.kB_apply]
  exact rot_eq m c hA t _ (y_eq m c t wt wsc hw hs) 384 _ n

/-- output 7: the values, -/
theorem out7 (t : Fin cfg0.N) (a : Fin 48) (b : Fin 8) (n : Fin 256) :
    (outsAt0 m c t.val t.isLt).2.2.1 (ix3 a b n) = Spec.y (args m c) (768 + (8 * a.val + b.val)) (row t n) := by
  obtain ⟨wt, wsc, hw, hs, -, -, h7, -⟩ := shape m c t
  rw [h7, Rot.v_apply]
  exact y_eq m c t wt wsc hw hs _ n

/-- output 8: the codes, -/
theorem out8 (t : Fin cfg0.N) (n : Fin 256) (k : Fin 3072) :
    (outsAt0 m c t.val t.isLt).2.2.2.1 (ix2 n k) = Spec.code (args m c) (row t n) k := by
  obtain ⟨wt, wsc, -, -, -, -, -, h8, -⟩ := shape m c t
  rw [h8, codes_eq]

/-- output 9: the rows' scales. -/
theorem out9 (t : Fin cfg0.N) (u : Fin 1) (n : Fin 256) :
    (outsAt0 m c t.val t.isLt).2.2.2.2.1 (ix2 u n) = Spec.scale (args m c) (row t n) := by
  obtain ⟨wt, wsc, -, -, -, -, -, -, h9⟩ := shape m c t
  rw [h9, Point.scalesRow_apply, amax_eq]
  rfl

end Cert.KernelIdeal.Region
end
-- ==== Proof.Pre.lean ====
/- The claim's precondition, read element by element. -/
module

public import proofs.«01_k».proof.Defs
public import proofs.«01_k».proof.Proof.Gen.Pre_finite_gain_and_positions_below_16384
public import proofs.«01_k».proof.Proof.Region
public import Idealize.ShloMosaic.Lib.ReduceAll

@[expose] public section

noncomputable section

namespace Cert.Pre_finite_gain_and_positions_below_16384

open Idealize.ShloMosaic Cert.Pre_finite_gain_and_positions_below_16384.Gen

/-- Where the precondition holds, no gain exceeds the largest finite number in size and every position lies in the table. -/
theorem read (x : FVec Ideal S1x8192x3072 .bf16) (g : FVec Ideal S3072 .f32) (w : FVec Ideal S3072x1152 .fp8e4m3) (ws : FVec Ideal S1152 .f32)
    (p : IVec S1x8192 32) (h : fn (F := Ideal) x g w ws p = fun _ => 1#1) :
    (∀ i, max (g i) (-(g i)) ≤ Ideal.ofBits .f32 0x7F7FFFFF#32) ∧ ∀ i, 0 ≤ (p i).toInt ∧ (p i).toInt < 16384 := by
  have h0 := congrFun h (fun a => a.elim0)
  have h1 := IntOp.andi_eq_one.1 h0
  haveI : Subsingleton S_.Idx := ⟨fun a b => funext fun k => k.elim0⟩
  refine ⟨fun i => ?_, fun i => ?_⟩
  · have e := Host.reduce_andi_all _ _ _ _ _ h1.1 i
    have e' : BitVec.ofBool (decide (max (g i) (-(g i)) ≤ Ideal.ofBits .f32 0x7F7FFFFF#32)) = 1#1 := e
    by_contra hc
    rw [decide_eq_false hc] at e'
    exact absurd e' (by decide)
  · have e := IntOp.andi_eq_one.1 (Host.reduce_andi_all _ _ _ _ _ h1.2 i)
    exact ⟨IntOp.cmpi_sge.1 e.1, IntOp.cmpi_slt.1 e.2⟩

/-- So the kernel's arguments are as the specification assumes them. -/
theorem ok (m : (ℓ : Loc Cert.KernelIdeal.nD Cert.KernelIdeal.τ Cert.KernelIdeal.sig) → Buf (Elt Ideal) ℓ)
    (h : Cert.Pre_KernelIdeal_finite_gain_and_positions_below_16384 m) (c : Dev Cert.KernelIdeal.nD) : (Cert.KernelIdeal.Region.args m c).Ok := by
  have r := read _ _ _ _ _ (h c)
  exact ⟨fun j => r.1 _, fun n => r.2 _⟩

end Cert.Pre_finite_gain_and_positions_below_16384
end
-- ==== Proof.Final.lean ====
/- The kernel's arrays at the end of its run: the five results, entry by entry, as functions of the arguments. -/
module

public import proofs.«01_k».proof.Proof.Region

@[expose] public section

set_option maxRecDepth 16384

noncomputable section

namespace Cert.KernelIdeal.Final

open Cert.KernelIdeal.Gen Cert.KernelIdeal.Region
open Idealize.ShloMosaic Idealize.ShloMosaic.TcCoe Idealize.ShloMosaic.Tactic
open Idealize.ShloMosaic.Pipeline (Dat Cfg Window)
open scoped BigOperators

variable (m : (ℓ : Loc nD τ sig) → Buf (Elt Ideal) ℓ) (c : Dev nD)

theorem ix_eta3 {A B C : ℕ} (j : (⟨3, ![A, B, C]⟩ : Shape).Idx) : j = ix3 (j 0) (j 1) (j 2) :=
  funext fun a => match a with | ⟨0, _⟩ => rfl | ⟨1, _⟩ => rfl | ⟨2, _⟩ => rfl

theorem ix_eta2 {A B : ℕ} (j : (⟨2, ![A, B]⟩ : Shape).Idx) : j = ix2 (j 0) (j 1) :=
  funext fun a => match a with | ⟨0, _⟩ => rfl | ⟨1, _⟩ => rfl

theorem off5 : ∀ t : Fin grid0.N, (win0_5.index t 0 * win0_5.size 0 = 0 ∧ win0_5.xsize (grid0.coords t) 0 = 48) ∧ (win0_5.index t 1 * win0_5.size 1 = 0 ∧ win0_5.xsize (grid0.coords t) 1 = 8) ∧ (win0_5.index t 2 * win0_5.size 2 = 256 * t.val ∧ win0_5.xsize (grid0.coords t) 2 = 256) := by decide +kernel

/-- The array of the queries that the kernel's region leaves. -/
def G5 (i : S48x8x8192.Idx) : EReal := Spec.rot (args m c) 0 (8 * (i 0).val + (i 1).val) (i 2)

theorem cut5 (t : Fin cfg0.N) (X : S48x8x256.Idx → EReal) (j : S48x8x256.Idx) : (cfg0.win 5).cut (grid0.coords t) X j = X j := rfl

/-- What a point writes back is its block of that array. -/
theorem flushed5 (hA : (args m c).Ok) (t : Fin cfg0.N) : (dats m 0 c).flushed 5 t = (win0_5.blk t).view.read (Elt Ideal) (G5 m c) := by
  show (cfg0.win 5).cut (grid0.coords t) ((dats m 0 c).after 5 t) = _
  rw [after0_5]
  refine funext fun (j : S48x8x256.Idx) => ?_
  have hj : j = ix3 (j 0) (j 1) (j 2) := ix_eta3 j
  have e : ((View.whole main_v3_0).slice (win0_5.rect t)).emb j = (ix3 (j 0) (j 1) (row t (j 2))) := by
    refine funext fun a => Fin.ext ?_
    match a with
    | ⟨0, h⟩ => exact (ValueKit.view_emb_slice_whole_unit_val _ _ _ _ _ _).trans ((congrArg (· + (j 0).val) (off5 t).1.1).trans (Nat.zero_add _))
    | ⟨1, h⟩ => exact (ValueKit.view_emb_slice_whole_unit_val _ _ _ _ _ _).trans ((congrArg (· + (j 1).val) (off5 t).2.1.1).trans (Nat.zero_add _))
    | ⟨2, h⟩ => exact (ValueKit.view_emb_slice_whole_unit_val _ _ _ _ _ _).trans (congrArg (· + (j 2).val) (off5 t).2.2.1)
  refine (cut5 t (outsAt0 m c t.val t.isLt).1 j).trans ?_
  have o := out5 m c hA t (j 0) (j 1) (j 2)
  generalize (outsAt0 m c t.val t.isLt).1 = X at o ⊢
  exact (congrArg X hj).trans (o.trans (congrArg (G5 m c) e).symm)

theorem mem5 (t : Fin cfg0.N) (i : S48x8x8192.Idx) : i ∈ ((cfg0.win 5).blk t).view.set ↔ 256 * t.val ≤ (i 2 : ℕ) ∧ (i 2 : ℕ) < 256 * t.val + 256 := by
  show i ∈ ((View.whole main_v3_0).slice (win0_5.rect t)).set ↔ _
  rw [View.set_slice_whole, Rect.mem_set_unit]
  have h0 : (i 0 : ℕ) < 48 := (i 0).isLt
  have h1 : (i 1 : ℕ) < 8 := (i 1).isLt
  have e := off5 t
  refine ⟨fun h => ?_, fun h a => ?_⟩
  · have : win0_5.index t 2 * win0_5.size 2 ≤ (i 2 : ℕ) ∧ (i 2 : ℕ) < win0_5.index t 2 * win0_5.size 2 + win0_5.xsize (grid0.coords t) 2 := h 2
    rw [e.2.2.1, e.2.2.2] at this; exact this
  · match a with
    | ⟨0, _⟩ => show win0_5.index t 0 * win0_5.size 0 ≤ (i 0 : ℕ) ∧ (i 0 : ℕ) < win0_5.index t 0 * win0_5.size 0 + win0_5.xsize (grid0.coords t) 0; rw [e.1.1, e.1.2]; omega
    | ⟨1, _⟩ => show win0_5.index t 1 * win0_5.size 1 ≤ (i 1 : ℕ) ∧ (i 1 : ℕ) < win0_5.index t 1 * win0_5.size 1 + win0_5.xsize (grid0.coords t) 1; rw [e.2.1.1, e.2.1.2]; omega
    | ⟨2, _⟩ => show win0_5.index t 2 * win0_5.size 2 ≤ (i 2 : ℕ) ∧ (i 2 : ℕ) < win0_5.index t 2 * win0_5.size 2 + win0_5.xsize (grid0.coords t) 2; rw [e.2.2.1, e.2.2.2]; exact h

theorem final5 (hA : (args m c).Ok) : (dats m 0 c).arrAt 5 cfg0.N = G5 m c :=
  (dats m 0 c).arrAt_eq_of_cover 5 (G5 m c) (fun t _ => flushed5 m c hA t) fun i => by
    have hi : (i 2 : ℕ) < 8192 := (i 2).isLt
    have hN : cfg0.N = 32 := N_0
    refine ⟨⟨(i 2 : ℕ) / 256, by omega⟩, flush0_5 _, ?_⟩
    refine (mem5 _ i).2 ?_
    dsimp only
    omega

theorem off6 : ∀ t : Fin grid0.N, (win0_6.index t 0 * win0_6.size 0 = 0 ∧ win0_6.xsize (grid0.coords t) 0 = 48) ∧ (win0_6.index t 1 * win0_6.size 1 = 0 ∧ win0_6.xsize (grid0.coords t) 1 = 8) ∧ (win0_6.index t 2 * win0_6.size 2 = 256 * t.val ∧ win0_6.xsize (grid0.coords t) 2 = 256) := by decide +kernel

/-- The array of the keys that the kernel's region leaves. -/
def G6 (i : S48x8x8192.Idx) : EReal := Spec.rot (args m c) 384 (8 * (i 0).val + (i 1).val) (i 2)

theorem cut6 (t : Fin cfg0.N) (X : S48x8x256.Idx → EReal) (j : S48x8x256.Idx) : (cfg0.win 6).cut (grid0.coords t) X j = X j := rfl

/-- What a point writes back is its block of that array. -/
theorem flushed6 (hA : (args m c).Ok) (t : Fin cfg0.N) : (dats m 0 c).flushed 6 t = (win0_6.blk t).view.read (Elt Ideal) (G6 m c) := by
  show (cfg0.win 6).cut (grid0.coords t) ((dats m 0 c).after 6 t) = _
  rw [after0_6]
  refine funext fun (j : S48x8x256.Idx) => ?_
  have hj : j = ix3 (j 0) (j 1) (j 2) := ix_eta3 j
  have e : ((View.whole main_v3_1).slice (win0_6.rect t)).emb j = (ix3 (j 0) (j 1) (row t (j 2))) := by
    refine funext fun a => Fin.ext ?_
    match a with
    | ⟨0, h⟩ => exact (ValueKit.view_emb_slice_whole_unit_val _ _ _ _ _ _).trans ((congrArg (· + (j 0).val) (off6 t).1.1).trans (Nat.zero_add _))
    | ⟨1, h⟩ => exact (ValueKit.view_emb_slice_whole_unit_val _ _ _ _ _ _).trans ((congrArg (· + (j 1).val) (off6 t).2.1.1).trans (Nat.zero_add _))
    | ⟨2, h⟩ => exact (ValueKit.view_emb_slice_whole_unit_val _ _ _ _ _ _).trans (congrArg (· + (j 2).val) (off6 t).2.2.1)
  refine (cut6 t (outsAt0 m c t.val t.isLt).2.1 j).trans ?_
  have o := out6 m c hA t (j 0) (j 1) (j 2)
  generalize (outsAt0 m c t.val t.isLt).2.1 = X at o ⊢
  exact (congrArg X hj).trans (o.trans (congrArg (G6 m c) e).symm)

theorem mem6 (t : Fin cfg0.N) (i : S48x8x8192.Idx) : i ∈ ((cfg0.win 6).blk t).view.set ↔ 256 * t.val ≤ (i 2 : ℕ) ∧ (i 2 : ℕ) < 256 * t.val + 256 := by
  show i ∈ ((View.whole main_v3_1).slice (win0_6.rect t)).set ↔ _
  rw [View.set_slice_whole, Rect.mem_set_unit]
  have h0 : (i 0 : ℕ) < 48 := (i 0).isLt
  have h1 : (i 1 : ℕ) < 8 := (i 1).isLt
  have e := off6 t
  refine ⟨fun h => ?_, fun h a => ?_⟩
  · have : win0_6.index t 2 * win0_6.size 2 ≤ (i 2 : ℕ) ∧ (i 2 : ℕ) < win0_6.index t 2 * win0_6.size 2 + win0_6.xsize (grid0.coords t) 2 := h 2
    rw [e.2.2.1, e.2.2.2] at this; exact this
  · match a with
    | ⟨0, _⟩ => show win0_6.index t 0 * win0_6.size 0 ≤ (i 0 : ℕ) ∧ (i 0 : ℕ) < win0_6.index t 0 * win0_6.size 0 + win0_6.xsize (grid0.coords t) 0; rw [e.1.1, e.1.2]; omega
    | ⟨1, _⟩ => show win0_6.index t 1 * win0_6.size 1 ≤ (i 1 : ℕ) ∧ (i 1 : ℕ) < win0_6.index t 1 * win0_6.size 1 + win0_6.xsize (grid0.coords t) 1; rw [e.2.1.1, e.2.1.2]; omega
    | ⟨2, _⟩ => show win0_6.index t 2 * win0_6.size 2 ≤ (i 2 : ℕ) ∧ (i 2 : ℕ) < win0_6.index t 2 * win0_6.size 2 + win0_6.xsize (grid0.coords t) 2; rw [e.2.2.1, e.2.2.2]; exact h

theorem final6 (hA : (args m c).Ok) : (dats m 0 c).arrAt 6 cfg0.N = G6 m c :=
  (dats m 0 c).arrAt_eq_of_cover 6 (G6 m c) (fun t _ => flushed6 m c hA t) fun i => by
    have hi : (i 2 : ℕ) < 8192 := (i 2).isLt
    have hN : cfg0.N = 32 := N_0
    refine ⟨⟨(i 2 : ℕ) / 256, by omega⟩, flush0_6 _, ?_⟩
    refine (mem6 _ i).2 ?_
    dsimp only
    omega

theorem off7 : ∀ t : Fin grid0.N, (win0_7.index t 0 * win0_7.size 0 = 0 ∧ win0_7.xsize (grid0.coords t) 0 = 48) ∧ (win0_7.index t 1 * win0_7.size 1 = 0 ∧ win0_7.xsize (grid0.coords t) 1 = 8) ∧ (win0_7.index t 2 * win0_7.size 2 = 256 * t.val ∧ win0_7.xsize (grid0.coords t) 2 = 256) := by decide +kernel

/-- The array of the values that the kernel's region leaves. -/
def G7 (i : S48x8x8192.Idx) : EReal := Spec.y (args m c) (768 + (8 * (i 0).val + (i 1).val)) (i 2)

theorem cut7 (t : Fin cfg0.N) (X : S48x8x256.Idx → EReal) (j : S48x8x256.Idx) : (cfg0.win 7).cut (grid0.coords t) X j = X j := rfl

/-- What a point writes back is its block of that array. -/
theorem flushed7 (t : Fin cfg0.N) : (dats m 0 c).flushed 7 t = (win0_7.blk t).view.read (Elt Ideal) (G7 m c) := by
  show (cfg0.win 7).cut (grid0.coords t) ((dats m 0 c).after 7 t) = _
  rw [after0_7]
  refine funext fun (j : S48x8x256.Idx) => ?_
  have hj : j = ix3 (j 0) (j 1) (j 2) := ix_eta3 j
  have e : ((View.whole main_v3_2).slice (win0_7.rect t)).emb j = (ix3 (j 0) (j 1) (row t (j 2))) := by
    refine funext fun a => Fin.ext ?_
    match a with
    | ⟨0, h⟩ => exact (ValueKit.view_emb_slice_whole_unit_val _ _ _ _ _ _).trans ((congrArg (· + (j 0).val) (off7 t).1.1).trans (Nat.zero_add _))
    | ⟨1, h⟩ => exact (ValueKit.view_emb_slice_whole_unit_val _ _ _ _ _ _).trans ((congrArg (· + (j 1).val) (off7 t).2.1.1).trans (Nat.zero_add _))
    | ⟨2, h⟩ => exact (ValueKit.view_emb_slice_whole_unit_val _ _ _ _ _ _).trans (congrArg (· + (j 2).val) (off7 t).2.2.1)
  refine (cut7 t (outsAt0 m c t.val t.isLt).2.2.1 j).trans ?_
  have o := out7 m c t (j 0) (j 1) (j 2)
  generalize (outsAt0 m c t.val t.isLt).2.2.1 = X at o ⊢
  exact (congrArg X hj).trans (o.trans (congrArg (G7 m c) e).symm)

theorem mem7 (t : Fin cfg0.N) (i : S48x8x8192.Idx) : i ∈ ((cfg0.win 7).blk t).view.set ↔ 256 * t.val ≤ (i 2 : ℕ) ∧ (i 2 : ℕ) < 256 * t.val + 256 := by
  show i ∈ ((View.whole main_v3_2).slice (win0_7.rect t)).set ↔ _
  rw [View.set_slice_whole, Rect.mem_set_unit]
  have h0 : (i 0 : ℕ) < 48 := (i 0).isLt
  have h1 : (i 1 : ℕ) < 8 := (i 1).isLt
  have e := off7 t
  refine ⟨fun h => ?_, fun h a => ?_⟩
  · have : win0_7.index t 2 * win0_7.size 2 ≤ (i 2 : ℕ) ∧ (i 2 : ℕ) < win0_7.index t 2 * win0_7.size 2 + win0_7.xsize (grid0.coords t) 2 := h 2
    rw [e.2.2.1, e.2.2.2] at this; exact this
  · match a with
    | ⟨0, _⟩ => show win0_7.index t 0 * win0_7.size 0 ≤ (i 0 : ℕ) ∧ (i 0 : ℕ) < win0_7.index t 0 * win0_7.size 0 + win0_7.xsize (grid0.coords t) 0; rw [e.1.1, e.1.2]; omega
    | ⟨1, _⟩ => show win0_7.index t 1 * win0_7.size 1 ≤ (i 1 : ℕ) ∧ (i 1 : ℕ) < win0_7.index t 1 * win0_7.size 1 + win0_7.xsize (grid0.coords t) 1; rw [e.2.1.1, e.2.1.2]; omega
    | ⟨2, _⟩ => show win0_7.index t 2 * win0_7.size 2 ≤ (i 2 : ℕ) ∧ (i 2 : ℕ) < win0_7.index t 2 * win0_7.size 2 + win0_7.xsize (grid0.coords t) 2; rw [e.2.2.1, e.2.2.2]; exact h

theorem final7 : (dats m 0 c).arrAt 7 cfg0.N = G7 m c :=
  (dats m 0 c).arrAt_eq_of_cover 7 (G7 m c) (fun t _ => flushed7 m c t) fun i => by
    have hi : (i 2 : ℕ) < 8192 := (i 2).isLt
    have hN : cfg0.N = 32 := N_0
    refine ⟨⟨(i 2 : ℕ) / 256, by omega⟩, flush0_7 _, ?_⟩
    refine (mem7 _ i).2 ?_
    dsimp only
    omega

theorem off8 : ∀ t : Fin grid0.N, (win0_8.index t 0 * win0_8.size 0 = 256 * t.val ∧ win0_8.xsize (grid0.coords t) 0 = 256) ∧ (win0_8.index t 1 * win0_8.size 1 = 0 ∧ win0_8.xsize (grid0.coords t) 1 = 3072) := by decide +kernel

/-- The array of the codes that the kernel's region leaves. -/
def G8 (i : S8192x3072.Idx) : EReal := Spec.code (args m c) (i 0) (i 1)

theorem cut8 (t : Fin cfg0.N) (X : S256x3072.Idx → EReal) (j : S256x3072.Idx) : (cfg0.win 8).cut (grid0.coords t) X j = X j := rfl

/-- What a point writes back is its block of that array. -/
theorem flushed8 (t : Fin cfg0.N) : (dats m 0 c).flushed 8 t = (win0_8.blk t).view.read (Elt Ideal) (G8 m c) := by
  show (cfg0.win 8).cut (grid0.coords t) ((dats m 0 c).after 8 t) = _
  rw [after0_8]
  refine funext fun (j : S256x3072.Idx) => ?_
  have hj : j = ix2 (j 0) (j 1) := ix_eta2 j
  have e : ((View.whole main_v3_3).slice (win0_8.rect t)).emb j = (ix2 (row t (j 0)) (j 1)) := by
    refine funext fun a => Fin.ext ?_
    match a with
    | ⟨0, h⟩ => exact (ValueKit.view_emb_slice_whole_unit_val _ _ _ _ _ _).trans (congrArg (· + (j 0).val) (off8 t).1.1)
    | ⟨1, h⟩ => exact (ValueKit.view_emb_slice_whole_unit_val _ _ _ _ _ _).trans ((congrArg (· + (j 1).val) (off8 t).2.1).trans (Nat.zero_add _))
  refine (cut8 t (outsAt0 m c t.val t.isLt).2.2.2.1 j).trans ?_
  have o := out8 m c t (j 0) (j 1)
  generalize (outsAt0 m c t.val t.isLt).2.2.2.1 = X at o ⊢
  exact (congrArg X hj).trans (o.trans (congrArg (G8 m c) e).symm)

theorem mem8 (t : Fin cfg0.N) (i : S8192x3072.Idx) : i ∈ ((cfg0.win 8).blk t).view.set ↔ 256 * t.val ≤ (i 0 : ℕ) ∧ (i 0 : ℕ) < 256 * t.val + 256 := by
  show i ∈ ((View.whole main_v3_3).slice (win0_8.rect t)).set ↔ _
  rw [View.set_slice_whole, Rect.mem_set_unit]
  have h1 : (i 1 : ℕ) < 3072 := (i 1).isLt
  have e := off8 t
  refine ⟨fun h => ?_, fun h a => ?_⟩
  · have : win0_8.index t 0 * win0_8.size 0 ≤ (i 0 : ℕ) ∧ (i 0 : ℕ) < win0_8.index t 0 * win0_8.size 0 + win0_8.xsize (grid0.coords t) 0 := h 0
    rw [e.1.1, e.1.2] at this; exact this
  · match a with
    | ⟨0, _⟩ => show win0_8.index t 0 * win0_8.size 0 ≤ (i 0 : ℕ) ∧ (i 0 : ℕ) < win0_8.index t 0 * win0_8.size 0 + win0_8.xsize (grid0.coords t) 0; rw [e.1.1, e.1.2]; exact h
    | ⟨1, _⟩ => show win0_8.index t 1 * win0_8.size 1 ≤ (i 1 : ℕ) ∧ (i 1 : ℕ) < win0_8.index t 1 * win0_8.size 1 + win0_8.xsize (grid0.coords t) 1; rw [e.2.1, e.2.2]; omega

theorem final8 : (dats m 0 c).arrAt 8 cfg0.N = G8 m c :=
  (dats m 0 c).arrAt_eq_of_cover 8 (G8 m c) (fun t _ => flushed8 m c t) fun i => by
    have hi : (i 0 : ℕ) < 8192 := (i 0).isLt
    have hN : cfg0.N = 32 := N_0
    refine ⟨⟨(i 0 : ℕ) / 256, by omega⟩, flush0_8 _, ?_⟩
    refine (mem8 _ i).2 ?_
    dsimp only
    omega

end Cert.KernelIdeal.Final
end
-- ==== Proof.Final9.lean ====
/- The array of the rows' scales at the end of the kernel's region. -/
module

public import proofs.«01_k».proof.Proof.Final

@[expose] public section

set_option maxRecDepth 16384

noncomputable section

namespace Cert.KernelIdeal.Final

open Cert.KernelIdeal.Gen Cert.KernelIdeal.Region
open Idealize.ShloMosaic Idealize.ShloMosaic.TcCoe Idealize.ShloMosaic.Tactic
open Idealize.ShloMosaic.Pipeline (Dat Cfg Window)
open scoped BigOperators

variable (m : (ℓ : Loc nD τ sig) → Buf (Elt Ideal) ℓ) (c : Dev nD)

theorem off9 : ∀ t : Fin grid0.N, (win0_9.index t 0 * win0_9.size 0 = 0 ∧ win0_9.xsize (grid0.coords t) 0 = 1) ∧ (win0_9.index t 1 * win0_9.size 1 = 256 * t.val ∧ win0_9.xsize (grid0.coords t) 1 = 256) := by decide +kernel

/-- The array of the rows' scales that the kernel's region leaves. -/
def G9 (i : S1x8192.Idx) : EReal := Spec.scale (args m c) (i 1)

theorem cut9 (t : Fin cfg0.N) (X : S1x256.Idx → EReal) (j : S1x256.Idx) : (cfg0.win 9).cut (grid0.coords t) X j = X j := rfl

theorem emb9 (t : Fin cfg0.N) (j : S1x256.Idx) : (((View.whole main_v3_4).slice (win0_9.rect t)).emb j 1).val = 256 * t.val + (j 1).val :=
  (ValueKit.view_emb_slice_whole_unit_val _ _ _ _ _ _).trans (congrArg (· + (j 1).val) (off9 t).2.1)

theorem G9_eq (t : Fin cfg0.N) (j : S1x256.Idx) : G9 m c (((View.whole main_v3_4).slice (win0_9.rect t)).emb j) = Spec.scale (args m c) (row t (j 1)) := by
  unfold G9
  refine congrArg _ (Fin.ext ?_)
  exact emb9 t j

theorem out9' (t : Fin cfg0.N) (j : S1x256.Idx) : (outsAt0 m c t.val t.isLt).2.2.2.2.1 j = Spec.scale (args m c) (row t (j 1)) := by
  have o := out9 m c t 0 (j 1)
  have hj : j = ix2 0 (j 1) := funext fun a => match a with | ⟨0, _⟩ => Fin.ext (by have := (j 0).isLt; exact Nat.lt_one_iff.1 this) | ⟨1, _⟩ => rfl
  generalize (outsAt0 m c t.val t.isLt).2.2.2.2.1 = X at o ⊢
  exact (congrArg X hj).trans o

theorem read9 (t : Fin cfg0.N) (G : S1x8192.Idx → EReal) (j : S1x256.Idx) : (win0_9.blk t).view.read (Elt Ideal) G j = G (((View.whole main_v3_4).slice (win0_9.rect t)).emb j) := rfl

theorem kept9 (t : Fin cfg0.N) (j : S1x256.Idx) : (dats m 0 c).flushed 9 t j = (cfg0.win 9).cut (grid0.coords t) ((dats m 0 c).after 9 t) j := rfl

theorem left9 (t : Fin cfg0.N) (j : S1x256.Idx) : (cfg0.win 9).cut (grid0.coords t) ((dats m 0 c).after 9 t) j = (outsAt0 m c t.val t.isLt).2.2.2.2.1 j := by
  rw [after0_9]; exact cut9 t _ j

/-- What a point writes back is its block of that array. -/
theorem flushed9 (t : Fin cfg0.N) : (dats m 0 c).flushed 9 t = (win0_9.blk t).view.read (Elt Ideal) (G9 m c) :=
  funext fun j => (kept9 m c t j).trans ((left9 m c t j).trans ((out9' m c t j).trans ((G9_eq m c t j).symm.trans (read9 t (G9 m c) j).symm)))

theorem mem9 (t : Fin cfg0.N) (i : S1x8192.Idx) : i ∈ ((cfg0.win 9).blk t).view.set ↔ 256 * t.val ≤ (i 1 : ℕ) ∧ (i 1 : ℕ) < 256 * t.val + 256 := by
  show i ∈ ((View.whole main_v3_4).slice (win0_9.rect t)).set ↔ _
  rw [View.set_slice_whole, Rect.mem_set_unit]
  have h0 : (i 0 : ℕ) < 1 := (i 0).isLt
  have e := off9 t
  refine ⟨fun h => ?_, fun h a => ?_⟩
  · have : win0_9.index t 1 * win0_9.size 1 ≤ (i 1 : ℕ) ∧ (i 1 : ℕ) < win0_9.index t 1 * win0_9.size 1 + win0_9.xsize (grid0.coords t) 1 := h 1
    rw [e.2.1, e.2.2] at this; exact this
  · match a with
    | ⟨0, _⟩ => show win0_9.index t 0 * win0_9.size 0 ≤ (i 0 : ℕ) ∧ (i 0 : ℕ) < win0_9.index t 0 * win0_9.size 0 + win0_9.xsize (grid0.coords t) 0; rw [e.1.1, e.1.2]; omega
    | ⟨1, _⟩ => show win0_9.index t 1 * win0_9.size 1 ≤ (i 1 : ℕ) ∧ (i 1 : ℕ) < win0_9.index t 1 * win0_9.size 1 + win0_9.xsize (grid0.coords t) 1; rw [e.2.1, e.2.2]; exact h

theorem final9 : (dats m 0 c).arrAt 9 cfg0.N = G9 m c :=
  (dats m 0 c).arrAt_eq_of_cover 9 (G9 m c) (fun t _ => flushed9 m c t) fun i => by
    have hi : (i 1 : ℕ) < 8192 := (i 1).isLt
    have hN : cfg0.N = 32 := N_0
    refine ⟨⟨(i 1 : ℕ) / 256, by omega⟩, flush0_9 _, ?_⟩
    refine (mem9 _ i).2 ?_
    dsimp only
    omega

end Cert.KernelIdeal.Final
end
-- ==== Proof.Tail.lean ====
/- The kernel's whole run: its five results, after the host's last reshapes and transposes, entry by entry. -/
module

public import proofs.«01_k».proof.Proof.Final9

@[expose] public section

set_option maxRecDepth 16384

noncomputable section

namespace Cert.KernelIdeal.Final

open Cert.KernelIdeal.Gen Cert.KernelIdeal.Region
open Idealize.ShloMosaic Idealize.ShloMosaic.TcCoe Idealize.ShloMosaic.Tactic
open Idealize.ShloMosaic.Pipeline (Dat Cfg Window)
open scoped BigOperators

variable (m : (ℓ : Loc nD τ sig) → Buf (Elt Ideal) ℓ) (c : Dev nD) (ρ : Dev nD → PrngReg)

/-- The tail's contents at the region's exit. -/
abbrev exitV (c : Dev nD) : Valuation τ sig (Elt Ideal) :=
  Pipeline.withArrays spec0 c (V0 m c) fun w => (dats m 0 c).arrAt w cfg0.N

theorem exit5 (hA : (args m c).Ok) : exitV m c (Proc.devRef .tc main_v3_0) = G5 m c :=
  (Pipeline.withArrays_arr spec0 launch0.win.arr_inj c (V0 m c) _ 5).trans (final5 m c hA)
theorem exit6 (hA : (args m c).Ok) : exitV m c (Proc.devRef .tc main_v3_1) = G6 m c :=
  (Pipeline.withArrays_arr spec0 launch0.win.arr_inj c (V0 m c) _ 6).trans (final6 m c hA)
theorem exit7 : exitV m c (Proc.devRef .tc main_v3_2) = G7 m c :=
  (Pipeline.withArrays_arr spec0 launch0.win.arr_inj c (V0 m c) _ 7).trans (final7 m c)
theorem exit8 : exitV m c (Proc.devRef .tc main_v3_3) = G8 m c :=
  (Pipeline.withArrays_arr spec0 launch0.win.arr_inj c (V0 m c) _ 8).trans (final8 m c)
theorem exit9 : exitV m c (Proc.devRef .tc main_v3_4) = G9 m c :=
  (Pipeline.withArrays_arr spec0 launch0.win.arr_inj c (V0 m c) _ 9).trans (final9 m c)

/-- The host's last step on the queries, keys and values: heads split, token axis first. -/
theorem heads_apply (G : S48x8x8192.Idx → EReal) (h1 h2) (i : S1x8192x4x96.Idx) (a : Fin 48) (b : Fin 8)
    (hab : 8 * a.val + b.val = 96 * (i 2).val + (i 3).val) :
    transpose S1x8192x4x96 [2, 3, 0, 1] (shapeCast (s := S48x8x8192) S4x96x1x8192 G h1) h2 i = G (ix3 a b (i 1)) := by
  have hi0 : (i 0).val < 1 := (i 0).isLt
  refine (transpose_apply _ _ _ _ (fun d => match d with | ⟨0, _⟩ => i 2 | ⟨1, _⟩ => i 3 | ⟨2, _⟩ => i 0 | ⟨3, _⟩ => i 1) ?_).trans ?_
  · intro d; match d with
    | ⟨0, _⟩ => rfl
    | ⟨1, _⟩ => rfl
    | ⟨2, _⟩ => rfl
    | ⟨3, _⟩ => rfl
  · refine shapeCast_apply _ _ _ (ix3 a b (i 1)) ?_
    rw [Shape.rowMajor_val_three, Shape.rowMajor_val_four]
    show (a.val * 8 + b.val) * 8192 + (i 1).val = (((i 2).val * 96 + (i 3).val) * 1 + (i 0).val) * 8192 + (i 1).val
    omega

theorem split_heads (i : S1x8192x4x96.Idx) : ∃ (a : Fin 48) (b : Fin 8), 8 * a.val + b.val = 96 * (i 2).val + (i 3).val := by
  have h2 : (i 2).val < 4 := (i 2).isLt
  have h3 : (i 3).val < 96 := (i 3).isLt
  exact ⟨⟨(96 * (i 2).val + (i 3).val) / 8, by omega⟩, ⟨(96 * (i 2).val + (i 3).val) % 8, by omega⟩, by dsimp only; omega⟩

theorem tail_v5 (hA : (args m c).Ok) : Pipeline.afterTail₀ cfgs (dats m) 0 (V0 m) [hostOps1] c main_v5 = Spec.queries (args m c) := by
  have h : Pipeline.afterTail₀ cfgs (dats m) 0 (V0 m) [hostOps1] c main_v5
      = transpose S1x8192x4x96 [2, 3, 0, 1] (shapeCast (s := S48x8x8192) S4x96x1x8192 (exitV m c (Proc.devRef .tc main_v3_0)) shapeCasts_S48x8x8192_S4x96x1x8192) transposes_S4x96x1x8192_S1x8192x4x96_2_3_0_1 := by
    show StableHlo.after (List.flatten [hostOps1]) (exitV m c) (Proc.devRef .tc main_v5) = _
    generalize exitV m c = W
    simp only [hostOps1, List.flatten_cons, List.flatten_nil, List.append_nil]; after_results; rfl
  rw [h, exit5 m c hA]
  refine funext fun i => ?_
  obtain ⟨a, b, e⟩ := split_heads i
  refine (heads_apply _ _ _ i a b e).trans ?_
  show Spec.rot (args m c) 0 (8 * a.val + b.val) (i 1) = Spec.rot (args m c) 0 (96 * (i 2).val + (i 3).val) (i 1)
  rw [e]

theorem tail_v7 (hA : (args m c).Ok) : Pipeline.afterTail₀ cfgs (dats m) 0 (V0 m) [hostOps1] c main_v7 = Spec.keys (args m c) := by
  have h : Pipeline.afterTail₀ cfgs (dats m) 0 (V0 m) [hostOps1] c main_v7
      = transpose S1x8192x4x96 [2, 3, 0, 1] (shapeCast (s := S48x8x8192) S4x96x1x8192 (exitV m c (Proc.devRef .tc main_v3_1)) shapeCasts_S48x8x8192_S4x96x1x8192) transposes_S4x96x1x8192_S1x8192x4x96_2_3_0_1 := by
    show StableHlo.after (List.flatten [hostOps1]) (exitV m c) (Proc.devRef .tc main_v7) = _
    generalize exitV m c = W
    simp only [hostOps1, List.flatten_cons, List.flatten_nil, List.append_nil]; after_results; rfl
  rw [h, exit6 m c hA]
  refine funext fun i => ?_
  obtain ⟨a, b, e⟩ := split_heads i
  refine (heads_apply _ _ _ i a b e).trans ?_
  show Spec.rot (args m c) 384 (8 * a.val + b.val) (i 1) = Spec.rot (args m c) 384 (96 * (i 2).val + (i 3).val) (i 1)
  rw [e]

theorem tail_v9 : Pipeline.afterTail₀ cfgs (dats m) 0 (V0 m) [hostOps1] c main_v9 = Spec.values (args m c) := by
  have h : Pipeline.afterTail₀ cfgs (dats m) 0 (V0 m) [hostOps1] c main_v9
      = transpose S1x8192x4x96 [2, 3, 0, 1] (shapeCast (s := S48x8x8192) S4x96x1x8192 (exitV m c (Proc.devRef .tc main_v3_2)) shapeCasts_S48x8x8192_S4x96x1x8192) transposes_S4x96x1x8192_S1x8192x4x96_2_3_0_1 := by
    show StableHlo.after (List.flatten [hostOps1]) (exitV m c) (Proc.devRef .tc main_v9) = _
    generalize exitV m c = W
    simp only [hostOps1, List.flatten_cons, List.flatten_nil, List.append_nil]; after_results; rfl
  rw [h, exit7 m c]
  refine funext fun i => ?_
  obtain ⟨a, b, e⟩ := split_heads i
  refine (heads_apply _ _ _ i a b e).trans ?_
  show Spec.y (args m c) (768 + (8 * a.val + b.val)) (i 1) = Spec.y (args m c) (768 + (96 * (i 2).val + (i 3).val)) (i 1)
  rw [e]

theorem tail_v10 : Pipeline.afterTail₀ cfgs (dats m) 0 (V0 m) [hostOps1] c main_v10 = Spec.codes (args m c) := by
  have h : Pipeline.afterTail₀ cfgs (dats m) 0 (V0 m) [hostOps1] c main_v10
      = shapeCast (s := S8192x3072) S1x8192x3072 (exitV m c (Proc.devRef .tc main_v3_3)) shapeCasts_S8192x3072_S1x8192x3072 := by
    show StableHlo.after (List.flatten [hostOps1]) (exitV m c) (Proc.devRef .tc main_v10) = _
    generalize exitV m c = W
    simp only [hostOps1, List.flatten_cons, List.flatten_nil, List.append_nil]; after_results; rfl
  rw [h, exit8 m c]
  refine funext fun i => ?_
  have hi0 : (i 0).val < 1 := (i 0).isLt
  refine shapeCast_apply _ _ _ (ix2 (i 1) (i 2)) ?_
  rw [Shape.rowMajor_val_three, Shape.rowMajor_val_two]
  show (i 1).val * 3072 + (i 2).val = ((i 0).val * 8192 + (i 1).val) * 3072 + (i 2).val
  omega

theorem tail_v11 : Pipeline.afterTail₀ cfgs (dats m) 0 (V0 m) [hostOps1] c main_v11 = Spec.scales (args m c) := by
  have h : Pipeline.afterTail₀ cfgs (dats m) 0 (V0 m) [hostOps1] c main_v11
      = shapeCast (s := S1x8192) S1x8192x1 (exitV m c (Proc.devRef .tc main_v3_4)) shapeCasts_S1x8192_S1x8192x1 := by
    show StableHlo.after (List.flatten [hostOps1]) (exitV m c) (Proc.devRef .tc main_v11) = _
    generalize exitV m c = W
    simp only [hostOps1, List.flatten_cons, List.flatten_nil, List.append_nil]; after_results; rfl
  rw [h, exit9 m c]
  refine funext fun i => ?_
  have hi0 : (i 0).val < 1 := (i 0).isLt
  have hi2 : (i 2).val < 1 := (i 2).isLt
  refine shapeCast_apply _ _ _ (ix2 (0 : Fin 1) (i 1)) ?_
  rw [Shape.rowMajor_val_three, Shape.rowMajor_val_two]
  show 0 * 8192 + (i 1).val = ((i 0).val * 8192 + (i 1).val) * 1 + (i 2).val
  omega

/-- The kernel's run: it ends, leaving the five results at the functions of the arguments the specification names, the
    arguments as launched. -/
theorem run (hA : ∀ c, (args m c).Ok) : θ_run defs (onTc (τ := τ) (main (F := Ideal))) ⟨m, fun _ => 0, ρ⟩ fun r => ∀ c : Dev nD,
      r.2.mem ((c : Thread nD τ).loc main_v5) = Spec.queries (args m c)
      ∧ r.2.mem ((c : Thread nD τ).loc main_v7) = Spec.keys (args m c)
      ∧ r.2.mem ((c : Thread nD τ).loc main_v9) = Spec.values (args m c)
      ∧ r.2.mem ((c : Thread nD τ).loc main_v10) = Spec.codes (args m c)
      ∧ r.2.mem ((c : Thread nD τ).loc main_v11) = Spec.scales (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨
      ((h c).2 main_v5 (Pipeline.mem_restRefs_of main_v5 (by decide) (by decide))).trans (tail_v5 m c (hA c)),
      ((h c).2 main_v7 (Pipeline.mem_restRefs_of main_v7 (by decide) (by decide))).trans (tail_v7 m c (hA c)),
      ((h c).2 main_v9 (Pipeline.mem_restRefs_of main_v9 (by decide) (by decide))).trans (tail_v9 m c),
      ((h c).2 main_v10 (Pipeline.mem_restRefs_of main_v10 (by decide) (by decide))).trans (tail_v10 m c),
      ((h c).2 main_v11 (Pipeline.mem_restRefs_of main_v11 (by decide) (by decide))).trans (tail_v11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩) (run_main m ρ)

end Cert.KernelIdeal.Final
end
-- ==== Proof.RefHost.lean ====
/- The reference's operations before its region, read at an index: the normalised rows, their scales' exponents, the scales. -/
module

public import proofs.«01_k».proof.Proof.Gen.ReferenceIdeal.Read
public import proofs.«01_k».proof.Proof.Spec

@[expose] public section

set_option maxRecDepth 16384

noncomputable section

namespace Cert.ReferenceIdeal.Host

open Cert.ReferenceIdeal Cert.ReferenceIdeal.Gen Cert.KernelIdeal
open Idealize.ShloMosaic Idealize.ShloMosaic.TcCoe Idealize.ShloMosaic.Tactic
open scoped BigOperators

/-- The normalised rows times the gain, as the reference computes them. -/
def hS (x : FVec Ideal S1x8192x3072 .bf16) (g : FVec Ideal S3072 .f32) : FVec Ideal S1x8192x3072 .f32 :=
  mulf (mulf (extf .f32 x bitsLt_bf16_f32) (broadcastInDim S1x8192x3072 ![0, 1, 2] bcast_S1x8192x1_S1x8192x3072_0_1_2 (Host.rsqrt (addf (Host.divf (broadcastInDim S1x8192x1 ![0, 1] bcast_S1x8192_S1x8192x1_0_1 (Host.reduceAdd (mulf (extf .f32 x bitsLt_bf16_f32) (extf .f32 x bitsLt_bf16_f32)) (constant S_ .f32 0x00000000#32) reducesTo_S1x8192x3072_S1x8192_d2 h_S_)) (broadcastInDim S1x8192x1 ![] bcast_S_S1x8192x1 (constant S_ .f32 0x45400000#32))) (broadcastInDim S1x8192x1 ![] bcast_S_S1x8192x1 (constant S_ .f32 0x358637BD#32)))))) (broadcastInDim S1x8192x3072 ![0, 1, 2] bcast_S1x1x3072_S1x8192x3072_0_1_2 (broadcastInDim S1x1x3072 ![2] bcast_S3072_S1x1x3072_2 g))

/-- The rows' largest magnitudes over 448. -/
def tS (h : FVec Ideal S1x8192x3072 .f32) : FVec Ideal S1x8192x1 .f32 :=
  mulf (broadcastInDim S1x8192x1 ![0, 1] bcast_S1x8192_S1x8192x1_0_1 (Host.reduce FloatOps.maximumf (Host.absf h) (constant S_ .f32 0xFF800000#32) reducesTo_S1x8192x3072_S1x8192_d2 h_S_)) (broadcastInDim S1x8192x1 ![] bcast_S_S1x8192x1 (constant S_ .f32 0x3B124925#32))

/-- The scales' exponents. -/
def eS (t : FVec Ideal S1x8192x1 .f32) : FVec Ideal S1x8192x1 .f32 :=
  select (cmpf .olt t (broadcastInDim S1x8192x1 ![] bcast_S_S1x8192x1 (constant S_ .f32 0x00800000#32))) (broadcastInDim S1x8192x1 ![] bcast_S_S1x8192x1 (id (constant S_ .f32 0x00000000#32))) (addf (Host.floor (Host.divf (Host.log t) (broadcastInDim S1x8192x1 ![] bcast_S_S1x8192x1 (Host.log (constant S_ .f32 0x40000000#32))))) (broadcastInDim S1x8192x1 ![] bcast_S_S1x8192x1 (constant S_ .f32 0x3F800000#32)))

/-- Two to the exponents. -/
def pS (e : FVec Ideal S1x8192x1 .f32) : FVec Ideal S1x8192x1 .f32 :=
  Host.powf (broadcastInDim S1x8192x1 ![] bcast_S_S1x8192x1 (constant S_ .f32 0x40000000#32)) e

theorem hS_apply (x : FVec Ideal S1x8192x3072 .bf16) (g : FVec Ideal S3072 .f32) (n : Fin 8192) (j : Fin 3072) :
    hS x g (ix3 0 n j) = Rows.hRow (fun k => g (ix1 k)) (fun k => x (ix3 0 n k)) j := by
  unfold hS; pointwise
  rfl

theorem rowMax_apply (y : S1x8192x3072.Idx → EReal) (z : EReal) (n : Fin 8192) :
    Host.reduce (u := S_) (max : EReal → EReal → EReal) y (fun _ => z) reducesTo_S1x8192x3072_S1x8192_d2 h_S_ (ix2 0 n)
      = (Finset.univ : Finset (Fin 3072)).fold max z (fun j => y (ix3 0 n j)) := by
  have hR : S1x8192x3072.Reduces [2] S1x8192 := by decide
  refine (Host.reduce_eq_fold_single (max : EReal → EReal → EReal) y (fun _ => z) reducesTo_S1x8192x3072_S1x8192_d2 hR h_S_ (ix2 0 n)).trans ?_
  refine congrArg (fun f => (Finset.univ : Finset (Fin 3072)).fold max z f) (funext fun k => ?_)
  refine congrArg y (funext fun a => ?_)
  match a with
  | ⟨0, _⟩ => rfl
  | ⟨1, _⟩ => rfl
  | ⟨2, _⟩ => rfl

/-- The same with the row maxima named. -/
theorem tS_of (R : FVec Ideal S1x8192 .f32) (n : Fin 8192) :
    mulf (broadcastInDim S1x8192x1 ![0, 1] bcast_S1x8192_S1x8192x1_0_1 R) (broadcastInDim S1x8192x1 ![] bcast_S_S1x8192x1 (constant S_ .f32 0x3B124925#32)) (ix3 0 n 0)
      = R (ix2 0 n) * Ideal.ofBits .f32 0x3B124925#32 := by
  pointwise

theorem tS_apply (h : FVec Ideal S1x8192x3072 .f32) (n : Fin 8192) :
    tS h (ix3 0 n 0) = (Finset.univ : Finset (Fin 3072)).fold max (Ideal.ofBits .f32 0xFF800000#32) (fun j => max (h (ix3 0 n j)) (-h (ix3 0 n j))) * Ideal.ofBits .f32 0x3B124925#32 := by
  unfold tS
  refine (tS_of _ n).trans ?_
  exact congrArg (· * Ideal.ofBits .f32 0x3B124925#32) (rowMax_apply (fun i => max (h i) (-h i)) (Ideal.ofBits .f32 0xFF800000#32) n)

theorem eS_apply (t : FVec Ideal S1x8192x1 .f32) (n : Fin 8192) : eS t (ix3 0 n 0) = Words.hostExpo (t (ix3 0 n 0)) := by
  unfold eS; pointwise
  unfold Words.hostExpo
  refine if_congr Iff.rfl ?_ rfl
  show Ideal.ofBits .f32 0#32 = 0
  exact Ideal.ofBits_zero .f32

theorem pS_apply (e : FVec Ideal S1x8192x1 .f32) (n : Fin 8192) : pS e (ix3 0 n 0) = Ideal.pow ((2 : ℝ) : EReal) (e (ix3 0 n 0)) := by
  unfold pS; pointwise
  rw [← Words.ofBits_two]

end Cert.ReferenceIdeal.Host
end
-- ==== Proof.RefRegion.lean ====
/- What the reference's region finds and leaves: the codes and the codes' products with the weights. -/
module

public import proofs.«01_k».proof.Proof.RefHost
public import Idealize.ShloMosaic.Lib.MatmulPlain
public import Idealize.ShloMosaic.Lib.Pipeline.ValueKit.Geometry

@[expose] public section

set_option maxRecDepth 16384

noncomputable section

namespace Cert.ReferenceIdeal.Host

open Cert.ReferenceIdeal Cert.ReferenceIdeal.Gen Cert.KernelIdeal
open Idealize.ShloMosaic Idealize.ShloMosaic.TcCoe Idealize.ShloMosaic.Tactic
open Idealize.ShloMosaic.StableHlo
open scoped BigOperators

variable (m : (ℓ : Loc nD τ sig) → Buf (Elt Ideal) ℓ) (c : Dev nD)

/-- The reference's arguments on a device. -/
def args : Spec.Args where
  x := fun n k => m ((c : Thread nD τ).loc main_arg0) (ix3 0 n k)
  g := fun k => m ((c : Thread nD τ).loc main_arg1) (ix1 k)
  w := fun k f => m ((c : Thread nD τ).loc main_arg2) (ix2 k f)
  ws := fun f => m ((c : Thread nD τ).loc main_arg3) (ix1 f)
  p := fun n => m ((c : Thread nD τ).loc main_arg4) (ix2 0 n)

/-- The rows and the exponents, from the launch's arguments. -/
abbrev hM : FVec Ideal S1x8192x3072 .f32 := hS (m ((c : Thread nD τ).loc main_arg0)) (m ((c : Thread nD τ).loc main_arg1))
abbrev eM : FVec Ideal S1x8192x1 .f32 := eS (tS (hM m c))

theorem hM_apply (n : Fin 8192) (j : Fin 3072) : hM m c (ix3 0 n j) = Rows.hRow (args m c).g ((args m c).x n) j := hS_apply _ _ n j

theorem tM_apply (n : Fin 8192) : tS (hM m c) (ix3 0 n 0) = Rows.tOf (args m c).g ((args m c).x n) := by
  rw [tS_apply]
  simp only [hM_apply]
  rfl

theorem eM_apply (hA : (args m c).Ok) (n : Fin 8192) :
    eM m c (ix3 0 n 0) = (((Words.expoOf (Rows.tOf (args m c).g ((args m c).x n)) : ℤ) : ℝ) : EReal) := by
  have hb := Rows.tOf_bound (args m c).g ((args m c).x n) hA.g
  refine (eS_apply (tS (hM m c)) n).trans ?_
  rw [tM_apply]
  exact Words.hostExpo_eq _ hb.1 (lt_trans hb.2 (EReal.coe_lt_top _))

/-- Result 5's entry: the row's scale. -/
theorem scale_apply (hA : (args m c).Ok) (n : Fin 8192) : pS (eM m c) (ix3 0 n 0) = Spec.scale (args m c) n := by
  have hb := Rows.tOf_bound (args m c).g ((args m c).x n) hA.g
  unfold Spec.scale Point.scaleOf
  rw [pS_apply, eM_apply m c hA, Words.pow_two_int]
  exact (Words.scaleWord_field _ hb.1 hb.2).symm

theorem negf_apply (e : FVec Ideal S1x8192x1 .f32) (i : S1x8192x1.Idx) : Host.negf e i = -(e i) := rfl

theorem inv_apply (hA : (args m c).Ok) (n : Fin 8192) :
    pS (Host.negf (eM m c)) (ix3 0 n 0) = Point.invOf (args m c).g ((args m c).x n) := by
  have hb := Rows.tOf_bound (args m c).g ((args m c).x n) hA.g
  unfold Point.invOf
  rw [pS_apply]
  have e : Host.negf (eM m c) (ix3 0 n 0) = (((-Words.expoOf (Rows.tOf (args m c).g ((args m c).x n)) : ℤ) : ℝ) : EReal) := by
    rw [negf_apply, eM_apply m c hA, Int.cast_neg, EReal.coe_neg]
  rw [e, Words.pow_two_int]
  exact (Words.invWord_field _ hb.1 hb.2).symm

set_option maxHeartbeats 2000000 in
theorem V_v31 : Gen.V m c main_v31 = shapeCast (s := S1x8192x3072) S8192x3072 (hM m c) shapeCasts_S1x8192x3072_S8192x3072 := by
  show Gen.V0 m c (Proc.devRef .tc main_v31) = _
  simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
  after_results_simp <;> rfl

set_option maxHeartbeats 2000000 in
theorem V_v35 : Gen.V m c main_v35 = shapeCast (s := S1x8192x1) S8192x1 (pS (Host.negf (eM m c))) shapeCasts_S1x8192x1_S8192x1 := by
  show Gen.V0 m c (Proc.devRef .tc main_v35) = _
  simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
  after_results_simp <;> rfl

theorem V_v30 : Value.exitV m c (Proc.devRef .tc main_v30) = pS (eM m c) := Value.exit_main_v30 m c

theorem V31_apply (n : Fin 8192) (k : Fin 3072) : Gen.V m c main_v31 (ix2 n k) = Rows.hRow (args m c).g ((args m c).x n) k := by
  rw [V_v31, ← hM_apply]
  refine shapeCast_apply _ _ _ (ix3 0 n k) ?_
  rw [Shape.rowMajor_val_two, Shape.rowMajor_val_three]; show (0 * 8192 + n.val) * 3072 + k.val = n.val * 3072 + k.val; omega

theorem V35_apply (hA : (args m c).Ok) (n : Fin 8192) : Gen.V m c main_v35 (ix2 n 0) = Point.invOf (args m c).g ((args m c).x n) := by
  rw [V_v35, ← inv_apply m c hA]
  refine shapeCast_apply _ _ _ (ix3 0 n 0) ?_
  rw [Shape.rowMajor_val_two, Shape.rowMajor_val_three]; show (0 * 8192 + n.val) * 1 + 0 = n.val * 1 + 0; omega

/-- The body's codes, at an index, -/
theorem pay1_apply (h : FVec Ideal S8192x3072 .f32) (v : FVec Ideal S8192x1 .f32) (n : Fin 8192) (k : Fin 3072) :
    k0_pay1 (F := Ideal) h v (ix2 n k) = min (Ideal.ofBits .f32 0x43E00000#32) (max (Ideal.ofBits .f32 0xC3E00000#32) (h (ix2 n k) * v (ix2 n 0))) := by
  unfold k0_pay1; pointwise

/-- and its products. -/
theorem prod_apply (a : FVec Ideal S8192x3072 .fp8e4m3) (w : FVec Ideal S3072x1152 .fp8e4m3) (n : Fin 8192) (f : Fin 1152) :
    matmul dot_S8192x3072_S3072x1152_S8192x1152_1_0_0_1_n_n none a w (constant (F := Ideal) S8192x1152 .f32 0x00000000#32) (ix2 n f)
      = ∑ k : Fin 3072, a (ix2 n k) * w (ix2 k f) := by
  pointwise

end Cert.ReferenceIdeal.Host
end
-- ==== Proof.RefFinal.lean ====
/- The arrays the reference's region leaves: the codes, and their products with the weights. -/
module

public import proofs.«01_k».proof.Proof.RefRegion

@[expose] public section

set_option maxRecDepth 16384

noncomputable section

namespace Cert.ReferenceIdeal.Host

open Cert.ReferenceIdeal Cert.ReferenceIdeal.Gen Cert.KernelIdeal
open Idealize.ShloMosaic Idealize.ShloMosaic.TcCoe Idealize.ShloMosaic.Tactic
open Idealize.ShloMosaic.Pipeline (Dat Cfg Window)
open scoped BigOperators

variable (m : (ℓ : Loc nD τ sig) → Buf (Elt Ideal) ℓ) (c : Dev nD)

theorem off0 : ∀ t : Fin grid0.N, win0_0.index t 0 * win0_0.size 0 = 0 ∧ win0_0.index t 1 * win0_0.size 1 = 0 := by decide +kernel
theorem off1 : ∀ t : Fin grid0.N, win0_1.index t 0 * win0_1.size 0 = 0 ∧ win0_1.index t 1 * win0_1.size 1 = 0 := by decide +kernel
theorem off2 : ∀ t : Fin grid0.N, win0_2.index t 0 * win0_2.size 0 = 0 ∧ win0_2.index t 1 * win0_2.size 1 = 0 := by decide +kernel
theorem off3 : ∀ t : Fin grid0.N, (win0_3.index t 0 * win0_3.size 0 = 0 ∧ win0_3.xsize (grid0.coords t) 0 = 8192) ∧ (win0_3.index t 1 * win0_3.size 1 = 0 ∧ win0_3.xsize (grid0.coords t) 1 = 3072) := by decide +kernel
theorem off4 : ∀ t : Fin grid0.N, (win0_4.index t 0 * win0_4.size 0 = 0 ∧ win0_4.xsize (grid0.coords t) 0 = 8192) ∧ (win0_4.index t 1 * win0_4.size 1 = 0 ∧ win0_4.xsize (grid0.coords t) 1 = 1152) := by decide +kernel

theorem iblk0 (t : Fin cfg0.N) (n : Fin 8192) (k : Fin 3072) : iblk m c 0 t (ix2 n k) = Rows.hRow (args m c).g ((args m c).x n) k := by
  refine Eq.trans ?_ (V31_apply m c n k)
  show V m c main_v31 (((View.whole main_v31).slice (win0_0.rect t)).emb (ix2 n k)) = V m c main_v31 (ix2 n k)
  refine congrArg _ (funext fun a => Fin.ext ?_)
  match a with
  | ⟨0, h⟩ => exact (ValueKit.view_emb_slice_whole_unit_val _ _ _ _ _ _).trans ((congrArg (· + n.val) (off0 t).1).trans (Nat.zero_add _))
  | ⟨1, h⟩ => exact (ValueKit.view_emb_slice_whole_unit_val _ _ _ _ _ _).trans ((congrArg (· + k.val) (off0 t).2).trans (Nat.zero_add _))

theorem emb1 (t : Fin cfg0.N) (j : S8192x1.Idx) : ((View.whole main_v35).slice (win0_1.rect t)).emb j = j := by
  have h0 : (((View.whole main_v35).slice (win0_1.rect t)).emb j 0).val = (j 0).val :=
    (ValueKit.view_emb_slice_whole_unit_val _ _ _ _ _ _).trans ((congrArg (· + (j 0).val) (off1 t).1).trans (Nat.zero_add _))
  generalize ((View.whole main_v35).slice (win0_1.rect t)).emb j = i at h0 ⊢
  refine funext fun a => Fin.ext ?_
  match a with
  | ⟨0, h⟩ => exact h0
  | ⟨1, h⟩ =>
    have h1 : (i 1).val < 1 := (i 1).isLt
    have h2 : (j 1).val < 1 := (j 1).isLt
    show (i 1).val = (j 1).val
    omega

theorem read1' (t : Fin cfg0.N) (X : S8192x1.Idx → EReal) (j : S8192x1.Idx) : (win0_1.blk t).view.read (Elt Ideal) X j = X (((View.whole main_v35).slice (win0_1.rect t)).emb j) := rfl

theorem read1 (t : Fin cfg0.N) (j : S8192x1.Idx) : iblk m c 1 t j = V m c main_v35 (((View.whole main_v35).slice (win0_1.rect t)).emb j) := by
  unfold iblk V
  generalize V0 m c = W
  exact read1' t (W (Proc.devRef .tc main_v35)) j

theorem iblk1 (hA : (args m c).Ok) (t : Fin cfg0.N) (n : Fin 8192) : iblk m c 1 t (ix2 n 0) = Point.invOf (args m c).g ((args m c).x n) :=
  (read1 m c t (ix2 n 0)).trans ((congrArg (V m c main_v35) (emb1 t (ix2 n 0))).trans (V35_apply m c hA n))

theorem iblk2 (t : Fin cfg0.N) (k : Fin 3072) (f : Fin 1152) : iblk m c 2 t (ix2 k f) = (args m c).w k f := by
  refine Eq.trans ?_ (congrFun (V_main_arg2 m c) (ix2 k f))
  show V m c main_arg2 (((View.whole main_arg2).slice (win0_2.rect t)).emb (ix2 k f)) = V m c main_arg2 (ix2 k f)
  refine congrArg _ (funext fun a => Fin.ext ?_)
  match a with
  | ⟨0, h⟩ => exact (ValueKit.view_emb_slice_whole_unit_val _ _ _ _ _ _).trans ((congrArg (· + k.val) (off2 t).1).trans (Nat.zero_add _))
  | ⟨1, h⟩ => exact (ValueKit.view_emb_slice_whole_unit_val _ _ _ _ _ _).trans ((congrArg (· + f.val) (off2 t).2).trans (Nat.zero_add _))

theorem hz : (![0, 0] : Fin 2 → Nat) = fun _ => 0 := funext fun a => by fin_cases a <;> rfl

theorem out3_eq (x0 : Vec Ideal S8192x3072 .f32) (x1 : Vec Ideal S8192x1 .f32) (x2 : Vec Ideal S3072x1152 .fp8e4m3) :
    out0_3 x0 x1 x2 = k0_pay1 x0 x1 := by
  unfold out0_3
  rw [View.canon_unit_zero hz, View.ld_unit_zero hz, View.ld_unit_zero hz]

theorem out4_eq (x0 : Vec Ideal S8192x3072 .f32) (x1 : Vec Ideal S8192x1 .f32) (x2 : Vec Ideal S3072x1152 .fp8e4m3) :
    out0_4 x0 x1 x2 = k0_pay2 x0 x1 x2 := by
  unfold out0_4
  rw [View.canon_unit_zero hz, View.ld_unit_zero hz, View.ld_unit_zero hz, View.ld_unit_zero hz]

theorem pay1_spec (hA : (args m c).Ok) (t : Fin cfg0.N) (n : Fin 8192) (k : Fin 3072) :
    k0_pay1 (F := Ideal) (iblk m c 0 t) (iblk m c 1 t) (ix2 n k) = Spec.code (args m c) n k := by
  rw [pay1_apply, iblk0, iblk1 m c hA]
  rfl

theorem pay2_spec (hA : (args m c).Ok) (t : Fin cfg0.N) (n : Fin 8192) (f : Fin 1152) :
    k0_pay2 (F := Ideal) (iblk m c 0 t) (iblk m c 1 t) (iblk m c 2 t) (ix2 n f) = ∑ k, Spec.code (args m c) n k * (args m c).w k f := by
  unfold k0_pay2
  refine (prod_apply _ _ n f).trans ?_
  exact Finset.sum_congr rfl fun k _ => congrArg₂ (· * ·) (pay1_spec m c hA t n k) (iblk2 m c t k f)

/-- The codes' array, -/
def G3 (i : S8192x3072.Idx) : EReal := Spec.code (args m c) (i 0) (i 1)
/-- and the products'. -/
def G4 (i : S8192x1152.Idx) : EReal := ∑ k, Spec.code (args m c) (i 0) k * (args m c).w k (i 1)

theorem ix_eta2 {A B : ℕ} (j : (⟨2, ![A, B]⟩ : Shape).Idx) : j = ix2 (j 0) (j 1) :=
  funext fun a => match a with | ⟨0, _⟩ => rfl | ⟨1, _⟩ => rfl

theorem cut3 (t : Fin cfg0.N) (X : S8192x3072.Idx → EReal) (j : S8192x3072.Idx) : (cfg0.win 3).cut (grid0.coords t) X j = X j := rfl
theorem kept3 (t : Fin cfg0.N) (j : S8192x3072.Idx) : (dats m 0 c).flushed 3 t j = (cfg0.win 3).cut (grid0.coords t) ((dats m 0 c).after 3 t) j := rfl
theorem read3 (t : Fin cfg0.N) (G : S8192x3072.Idx → EReal) (j : S8192x3072.Idx) : (win0_3.blk t).view.read (Elt Ideal) G j = G (((View.whole main_v36_0).slice (win0_3.rect t)).emb j) := rfl
theorem emb3 (t : Fin cfg0.N) (j : S8192x3072.Idx) : ((View.whole main_v36_0).slice (win0_3.rect t)).emb j = j := by
  refine funext fun a => Fin.ext ?_
  match a with
  | ⟨0, h⟩ => exact (ValueKit.view_emb_slice_whole_unit_val _ _ _ _ _ _).trans ((congrArg (· + (j 0).val) (off3 t).1.1).trans (Nat.zero_add _))
  | ⟨1, h⟩ => exact (ValueKit.view_emb_slice_whole_unit_val _ _ _ _ _ _).trans ((congrArg (· + (j 1).val) (off3 t).2.1).trans (Nat.zero_add _))
theorem left3 (hA : (args m c).Ok) (t : Fin cfg0.N) (j : S8192x3072.Idx) : (cfg0.win 3).cut (grid0.coords t) ((dats m 0 c).after 3 t) j = G3 m c j := by
  rw [after0_3]
  refine (cut3 t _ j).trans ?_
  rw [out3_eq, ix_eta2 j]
  exact pay1_spec m c hA t (j 0) (j 1)
theorem flushed3 (hA : (args m c).Ok) (t : Fin cfg0.N) : (dats m 0 c).flushed 3 t = (win0_3.blk t).view.read (Elt Ideal) (G3 m c) :=
  funext fun j => (kept3 m c t j).trans ((left3 m c hA t j).trans ((congrArg (G3 m c) (emb3 t j)).symm.trans (read3 t (G3 m c) j).symm))

theorem cut4 (t : Fin cfg0.N) (X : S8192x1152.Idx → EReal) (j : S8192x1152.Idx) : (cfg0.win 4).cut (grid0.coords t) X j = X j := rfl
theorem kept4 (t : Fin cfg0.N) (j : S8192x1152.Idx) : (dats m 0 c).flushed 4 t j = (cfg0.win 4).cut (grid0.coords t) ((dats m 0 c).after 4 t) j := rfl
theorem read4 (t : Fin cfg0.N) (G : S8192x1152.Idx → EReal) (j : S8192x1152.Idx) : (win0_4.blk t).view.read (Elt Ideal) G j = G (((View.whole main_v36_1).slice (win0_4.rect t)).emb j) := rfl
theorem emb4 (t : Fin cfg0.N) (j : S8192x1152.Idx) : ((View.whole main_v36_1).slice (win0_4.rect t)).emb j = j := by
  refine funext fun a => Fin.ext ?_
  match a with
  | ⟨0, h⟩ => exact (ValueKit.view_emb_slice_whole_unit_val _ _ _ _ _ _).trans ((congrArg (· + (j 0).val) (off4 t).1.1).trans (Nat.zero_add _))
  | ⟨1, h⟩ => exact (ValueKit.view_emb_slice_whole_unit_val _ _ _ _ _ _).trans ((congrArg (· + (j 1).val) (off4 t).2.1).trans (Nat.zero_add _))
theorem left4 (hA : (args m c).Ok) (t : Fin cfg0.N) (j : S8192x1152.Idx) : (cfg0.win 4).cut (grid0.coords t) ((dats m 0 c).after 4 t) j = G4 m c j := by
  rw [after0_4]
  refine (cut4 t _ j).trans ?_
  rw [out4_eq, ix_eta2 j]
  exact pay2_spec m c hA t (j 0) (j 1)
theorem flushed4 (hA : (args m c).Ok) (t : Fin cfg0.N) : (dats m 0 c).flushed 4 t = (win0_4.blk t).view.read (Elt Ideal) (G4 m c) :=
  funext fun j => (kept4 m c t j).trans ((left4 m c hA t j).trans ((congrArg (G4 m c) (emb4 t j)).symm.trans (read4 t (G4 m c) j).symm))

theorem mem3 (t : Fin cfg0.N) (i : S8192x3072.Idx) : i ∈ ((cfg0.win 3).blk t).view.set := by
  show i ∈ ((View.whole main_v36_0).slice (win0_3.rect t)).set
  rw [View.set_slice_whole, Rect.mem_set_unit]
  have h0 : (i 0 : ℕ) < 8192 := (i 0).isLt
  have h1 : (i 1 : ℕ) < 3072 := (i 1).isLt
  have e := off3 t
  intro a
  match a with
  | ⟨0, _⟩ => show win0_3.index t 0 * win0_3.size 0 ≤ (i 0 : ℕ) ∧ (i 0 : ℕ) < win0_3.index t 0 * win0_3.size 0 + win0_3.xsize (grid0.coords t) 0; rw [e.1.1, e.1.2]; omega
  | ⟨1, _⟩ => show win0_3.index t 1 * win0_3.size 1 ≤ (i 1 : ℕ) ∧ (i 1 : ℕ) < win0_3.index t 1 * win0_3.size 1 + win0_3.xsize (grid0.coords t) 1; rw [e.2.1, e.2.2]; omega
theorem mem4 (t : Fin cfg0.N) (i : S8192x1152.Idx) : i ∈ ((cfg0.win 4).blk t).view.set := by
  show i ∈ ((View.whole main_v36_1).slice (win0_4.rect t)).set
  rw [View.set_slice_whole, Rect.mem_set_unit]
  have h0 : (i 0 : ℕ) < 8192 := (i 0).isLt
  have h1 : (i 1 : ℕ) < 1152 := (i 1).isLt
  have e := off4 t
  intro a
  match a with
  | ⟨0, _⟩ => show win0_4.index t 0 * win0_4.size 0 ≤ (i 0 : ℕ) ∧ (i 0 : ℕ) < win0_4.index t 0 * win0_4.size 0 + win0_4.xsize (grid0.coords t) 0; rw [e.1.1, e.1.2]; omega
  | ⟨1, _⟩ => show win0_4.index t 1 * win0_4.size 1 ≤ (i 1 : ℕ) ∧ (i 1 : ℕ) < win0_4.index t 1 * win0_4.size 1 + win0_4.xsize (grid0.coords t) 1; rw [e.2.1, e.2.2]; omega

theorem final3 (hA : (args m c).Ok) : Value.reg_main_v36_0 m c = G3 m c :=
  (dats m 0 c).arrAt_eq_of_cover 3 (G3 m c) (fun t _ => flushed3 m c hA t) fun i =>
    ⟨⟨0, by have hN : cfg0.N = 1 := N_0; omega⟩, flush0_3 _, mem3 _ i⟩
theorem final4 (hA : (args m c).Ok) : Value.reg_main_v36_1 m c = G4 m c :=
  (dats m 0 c).arrAt_eq_of_cover 4 (G4 m c) (fun t _ => flushed4 m c hA t) fun i =>
    ⟨⟨0, by have hN : cfg0.N = 1 := N_0; omega⟩, flush0_4 _, mem4 _ i⟩

end Cert.ReferenceIdeal.Host
end
-- ==== Proof.RefTail.lean ====
/- The reference's operations after its region, read at an index. -/
module

public import proofs.«01_k».proof.Proof.RefFinal

@[expose] public section

set_option maxRecDepth 16384

noncomputable section

namespace Cert.ReferenceIdeal.Tail

open Cert.ReferenceIdeal Cert.ReferenceIdeal.Gen Cert.ReferenceIdeal.Read Cert.KernelIdeal
open Idealize.ShloMosaic Idealize.ShloMosaic.TcCoe Idealize.ShloMosaic.Tactic
open scoped BigOperators

variable (x3 : FVec Ideal S1152 .f32) (x4 : IVec S1x8192 32) (r1 : FVec Ideal S8192x1152 .f32) (e0 : FVec Ideal S1x8192x1 .f32)

/-- The rescaled products, -/
theorem v43_at (n : Fin 8192) (f : Fin 1152) :
    val_main_v43 (F := Ideal) x3 r1 e0 (ix3 0 n f) = r1 (ix2 n f) * e0 (ix3 0 n 0) * x3 (ix1 f) := by
  rw [val_main_v43_apply, val_main_v40_apply, val_main_v38_apply, val_main_v39_apply, val_main_v42_apply, val_main_v41_apply]
  have h1 : idx_main_v38 (ix3 0 n f) = ix2 n f := funext fun a => Fin.ext (by
    match a with
    | ⟨0, _⟩ => show ((0 * 8192 + n.val) * 1152 + f.val) / 1152 = n.val; omega
    | ⟨1, _⟩ => show ((0 * 8192 + n.val) * 1152 + f.val) % 1152 = f.val; omega)
  have h2 : idx_main_v39 (ix3 0 n f) = ix3 0 n 0 := funext fun a => Fin.ext (by
    match a with
    | ⟨0, _⟩ => rfl
    | ⟨1, _⟩ => rfl
    | ⟨2, _⟩ => rfl)
  have h3 : idx_main_v41 (idx_main_v42 (ix3 0 n f)) = ix1 f := funext fun a => Fin.ext (by
    match a with
    | ⟨0, _⟩ => rfl)
  rw [h1, h2, h3]
  rfl

/-- the inverse frequencies, -/
theorem v54_at (i : Fin 48) : val_main_v54 (F := Ideal) (ix1 i) = Trig.invf i.val := by
  unfold val_main_v54 val_main_v53 val_main_v52 val_main_v51 val_main_v50 val_main_v49 val_main_v48 val_main_v47 val_main_v46 val_main_v45 val_main_v44
    val_main_cst_14 val_main_cst_13 val_main_cst_12 val_main_cst_11 val_main_cst_10
  pointwise
  have h : FloatOps.sitofp (F := Ideal) .f32 (BitVec.ofNat 32 i.val) = ((i.val : ℝ) : EReal) := by
    show (((BitVec.ofNat 32 i.val).toInt : ℝ) : EReal) = _
    rw [Trig.toInt_small _ (by have := i.isLt; omega)]
    norm_cast
  rw [h, mul_comm]
  rfl

theorem v60_at (n : Fin 8192) (i : Fin 48) : val_main_v60 (F := Ideal) x4 (ix3 0 n i) = Trig.ang (x4 (ix2 0 n)).toInt i.val := by
  unfold Trig.ang
  rw [← v54_at, val_main_v60_apply, val_main_v58_apply, val_main_v56_apply, val_main_v55_apply, val_main_v59_apply, val_main_v57_apply]
  have h1 : idx_main_v56 (idx_main_v58 (ix3 0 n i)) = ix2 0 n := funext fun a => Fin.ext (by
    match a with
    | ⟨0, _⟩ => rfl
    | ⟨1, _⟩ => rfl)
  have h2 : idx_main_v57 (idx_main_v59 (ix3 0 n i)) = ix1 i := funext fun a => Fin.ext (by
    match a with
    | ⟨0, _⟩ => rfl)
  rw [h1, h2]
  rfl

theorem v62_at (n : Fin 8192) (i : Fin 48) : val_main_v62 (F := Ideal) x4 (ix4 0 n 0 i) = Ideal.cos (Trig.ang (x4 (ix2 0 n)).toInt i.val) := by
  rw [← v60_at, val_main_v62_apply, val_main_v61_apply]
  have h1 : idx_main_v62 (ix4 0 n 0 i) = ix3 0 n i := funext fun a => Fin.ext (by
    match a with
    | ⟨0, _⟩ => rfl
    | ⟨1, _⟩ => rfl
    | ⟨2, _⟩ => rfl)
  rw [h1]
  rfl

theorem v64_at (n : Fin 8192) (i : Fin 48) : val_main_v64 (F := Ideal) x4 (ix4 0 n 0 i) = Ideal.sin (Trig.ang (x4 (ix2 0 n)).toInt i.val) := by
  rw [← v60_at, val_main_v64_apply, val_main_v63_apply]
  have h1 : idx_main_v64 (ix4 0 n 0 i) = ix3 0 n i := funext fun a => Fin.ext (by
    match a with
    | ⟨0, _⟩ => rfl
    | ⟨1, _⟩ => rfl
    | ⟨2, _⟩ => rfl)
  rw [h1]
  rfl

/-- A head's features among the projections, -/
theorem v66_at (n : Fin 8192) (h : Fin 4) (d : Fin 96) :
    val_main_v66 (F := Ideal) x3 r1 e0 (ix4 0 n h d) = val_main_v43 (F := Ideal) x3 r1 e0 (ix3 0 n ⟨0 + (96 * h.val + d.val), by omega⟩) := by
  rw [val_main_v66_apply, val_main_v65_apply]
  congr 1
  funext a
  refine Fin.ext ?_
  match a with
  | ⟨0, _⟩ => rfl
  | ⟨1, _⟩ =>
    show ((((0 * 8192 + n.val) * 4 + h.val) * 96 + d.val) / 384) % 8192 = n.val
    omega
  | ⟨2, _⟩ =>
    show ((((0 * 8192 + n.val) * 4 + h.val) * 96 + d.val) % 384) = 0 + (96 * h.val + d.val)
    omega

theorem v82_at (n : Fin 8192) (h : Fin 4) (d : Fin 96) :
    val_main_v82 (F := Ideal) x3 r1 e0 (ix4 0 n h d) = val_main_v43 (F := Ideal) x3 r1 e0 (ix3 0 n ⟨384 + (96 * h.val + d.val), by omega⟩) := by
  rw [val_main_v82_apply, val_main_v81_apply]
  congr 1
  funext a
  refine Fin.ext ?_
  match a with
  | ⟨0, _⟩ => rfl
  | ⟨1, _⟩ =>
    show ((((0 * 8192 + n.val) * 4 + h.val) * 96 + d.val) / 384) % 8192 = n.val
    omega
  | ⟨2, _⟩ =>
    show 384 + ((((0 * 8192 + n.val) * 4 + h.val) * 96 + d.val) % 384) = 384 + (96 * h.val + d.val)
    omega

theorem v98_at (n : Fin 8192) (h : Fin 4) (d : Fin 96) :
    val_main_v98 (F := Ideal) x3 r1 e0 (ix4 0 n h d) = val_main_v43 (F := Ideal) x3 r1 e0 (ix3 0 n ⟨768 + (96 * h.val + d.val), by omega⟩) := by
  rw [val_main_v98_apply, val_main_v97_apply]
  congr 1
  funext a
  refine Fin.ext ?_
  match a with
  | ⟨0, _⟩ => rfl
  | ⟨1, _⟩ =>
    show ((((0 * 8192 + n.val) * 4 + h.val) * 96 + d.val) / 384) % 8192 = n.val
    omega
  | ⟨2, _⟩ =>
    show 768 + ((((0 * 8192 + n.val) * 4 + h.val) * 96 + d.val) % 384) = 768 + (96 * h.val + d.val)
    omega

/-- two halves put side by side, -/
theorem cat_at (A B : FVec Ideal S1x8192x4x48 .f32) (n : Fin 8192) (h : Fin 4) (d : Fin 96) :
    concatenate S1x8192x4x96 3 [⟨S1x8192x4x48, A⟩, ⟨S1x8192x4x48, B⟩] concatenates_S1x8192x4x48_S1x8192x4x48_S1x8192x4x96_d3 (ix4 0 n h d)
      = if hd : d.val < 48 then A (ix4 0 n h ⟨d.val, hd⟩) else B (ix4 0 n h ⟨d.val - 48, by have := d.isLt; omega⟩) := by
  pointwise

theorem v67_at (n : Fin 8192) (h : Fin 4) (d : Fin 48) :
    val_main_v67 (F := Ideal) x3 r1 e0 (ix4 0 n h d) = val_main_v43 (F := Ideal) x3 r1 e0 (ix3 0 n ⟨0 + (96 * h.val + d.val), by omega⟩) := by
  rw [val_main_v67_apply]
  have h1 : idx_main_v67 (ix4 0 n h d) = ix4 0 n h (⟨d.val, by omega⟩ : Fin 96) := funext fun a => Fin.ext (by
    match a with
    | ⟨0, _⟩ => rfl
    | ⟨1, _⟩ => rfl
    | ⟨2, _⟩ => rfl
    | ⟨3, _⟩ => rfl)
  rw [h1, v66_at]

theorem v68_at (n : Fin 8192) (h : Fin 4) (d : Fin 48) :
    val_main_v68 (F := Ideal) x3 r1 e0 (ix4 0 n h d) = val_main_v43 (F := Ideal) x3 r1 e0 (ix3 0 n ⟨0 + (96 * h.val + (48 + d.val)), by omega⟩) := by
  rw [val_main_v68_apply]
  have h1 : idx_main_v68 (ix4 0 n h d) = ix4 0 n h (⟨48 + d.val, by omega⟩ : Fin 96) := funext fun a => Fin.ext (by
    match a with
    | ⟨0, _⟩ => rfl
    | ⟨1, _⟩ => rfl
    | ⟨2, _⟩ => rfl
    | ⟨3, _⟩ => rfl)
  rw [h1, v66_at]

theorem v73_at (n : Fin 8192) (h : Fin 4) (d : Fin 48) :
    val_main_v73 (F := Ideal) x3 x4 r1 e0 (ix4 0 n h d)
      = val_main_v43 (F := Ideal) x3 r1 e0 (ix3 0 n ⟨0 + (96 * h.val + d.val), by omega⟩) * Ideal.cos (Trig.ang (x4 (ix2 0 n)).toInt d.val)
        - val_main_v43 (F := Ideal) x3 r1 e0 (ix3 0 n ⟨0 + (96 * h.val + (48 + d.val)), by omega⟩) * Ideal.sin (Trig.ang (x4 (ix2 0 n)).toInt d.val) := by
  rw [val_main_v73_apply, val_main_v70_apply, val_main_v72_apply, val_main_v69_apply, val_main_v71_apply, v67_at, v68_at]
  have h1 : idx_main_v69 (ix4 0 n h d) = ix4 0 n 0 d := funext fun a => Fin.ext (by
    match a with
    | ⟨0, _⟩ => rfl
    | ⟨1, _⟩ => rfl
    | ⟨2, _⟩ => rfl
    | ⟨3, _⟩ => rfl)
  have h2 : idx_main_v71 (ix4 0 n h d) = ix4 0 n 0 d := funext fun a => Fin.ext (by
    match a with
    | ⟨0, _⟩ => rfl
    | ⟨1, _⟩ => rfl
    | ⟨2, _⟩ => rfl
    | ⟨3, _⟩ => rfl)
  rw [h1, h2, v62_at, v64_at]
  rfl

theorem v78_at (n : Fin 8192) (h : Fin 4) (d : Fin 48) :
    val_main_v78 (F := Ideal) x3 x4 r1 e0 (ix4 0 n h d)
      = val_main_v43 (F := Ideal) x3 r1 e0 (ix3 0 n ⟨0 + (96 * h.val + (48 + d.val)), by omega⟩) * Ideal.cos (Trig.ang (x4 (ix2 0 n)).toInt d.val)
        + val_main_v43 (F := Ideal) x3 r1 e0 (ix3 0 n ⟨0 + (96 * h.val + d.val), by omega⟩) * Ideal.sin (Trig.ang (x4 (ix2 0 n)).toInt d.val) := by
  rw [val_main_v78_apply, val_main_v75_apply, val_main_v77_apply, val_main_v74_apply, val_main_v76_apply, v67_at, v68_at]
  have h1 : idx_main_v74 (ix4 0 n h d) = ix4 0 n 0 d := funext fun a => Fin.ext (by
    match a with
    | ⟨0, _⟩ => rfl
    | ⟨1, _⟩ => rfl
    | ⟨2, _⟩ => rfl
    | ⟨3, _⟩ => rfl)
  have h2 : idx_main_v76 (ix4 0 n h d) = ix4 0 n 0 d := funext fun a => Fin.ext (by
    match a with
    | ⟨0, _⟩ => rfl
    | ⟨1, _⟩ => rfl
    | ⟨2, _⟩ => rfl
    | ⟨3, _⟩ => rfl)
  rw [h1, h2, v62_at, v64_at]
  rfl

theorem v83_at (n : Fin 8192) (h : Fin 4) (d : Fin 48) :
    val_main_v83 (F := Ideal) x3 r1 e0 (ix4 0 n h d) = val_main_v43 (F := Ideal) x3 r1 e0 (ix3 0 n ⟨384 + (96 * h.val + d.val), by omega⟩) := by
  rw [val_main_v83_apply]
  have h1 : idx_main_v83 (ix4 0 n h d) = ix4 0 n h (⟨d.val, by omega⟩ : Fin 96) := funext fun a => Fin.ext (by
    match a with
    | ⟨0, _⟩ => rfl
    | ⟨1, _⟩ => rfl
    | ⟨2, _⟩ => rfl
    | ⟨3, _⟩ => rfl)
  rw [h1, v82_at]

theorem v84_at (n : Fin 8192) (h : Fin 4) (d : Fin 48) :
    val_main_v84 (F := Ideal) x3 r1 e0 (ix4 0 n h d) = val_main_v43 (F := Ideal) x3 r1 e0 (ix3 0 n ⟨384 + (96 * h.val + (48 + d.val)), by omega⟩) := by
  rw [val_main_v84_apply]
  have h1 : idx_main_v84 (ix4 0 n h d) = ix4 0 n h (⟨48 + d.val, by omega⟩ : Fin 96) := funext fun a => Fin.ext (by
    match a with
    | ⟨0, _⟩ => rfl
    | ⟨1, _⟩ => rfl
    | ⟨2, _⟩ => rfl
    | ⟨3, _⟩ => rfl)
  rw [h1, v82_at]

theorem v89_at (n : Fin 8192) (h : Fin 4) (d : Fin 48) :
    val_main_v89 (F := Ideal) x3 x4 r1 e0 (ix4 0 n h d)
      = val_main_v43 (F := Ideal) x3 r1 e0 (ix3 0 n ⟨384 + (96 * h.val + d.val), by omega⟩) * Ideal.cos (Trig.ang (x4 (ix2 0 n)).toInt d.val)
        - val_main_v43 (F := Ideal) x3 r1 e0 (ix3 0 n ⟨384 + (96 * h.val + (48 + d.val)), by omega⟩) * Ideal.sin (Trig.ang (x4 (ix2 0 n)).toInt d.val) := by
  rw [val_main_v89_apply, val_main_v86_apply, val_main_v88_apply, val_main_v85_apply, val_main_v87_apply, v83_at, v84_at]
  have h1 : idx_main_v85 (ix4 0 n h d) = ix4 0 n 0 d := funext fun a => Fin.ext (by
    match a with
    | ⟨0, _⟩ => rfl
    | ⟨1, _⟩ => rfl
    | ⟨2, _⟩ => rfl
    | ⟨3, _⟩ => rfl)
  have h2 : idx_main_v87 (ix4 0 n h d) = ix4 0 n 0 d := funext fun a => Fin.ext (by
    match a with
    | ⟨0, _⟩ => rfl
    | ⟨1, _⟩ => rfl
    | ⟨2, _⟩ => rfl
    | ⟨3, _⟩ => rfl)
  rw [h1, h2, v62_at, v64_at]
  rfl

theorem v94_at (n : Fin 8192) (h : Fin 4) (d : Fin 48) :
    val_main_v94 (F := Ideal) x3 x4 r1 e0 (ix4 0 n h d)
      = val_main_v43 (F := Ideal) x3 r1 e0 (ix3 0 n ⟨384 + (96 * h.val + (48 + d.val)), by omega⟩) * Ideal.cos (Trig.ang (x4 (ix2 0 n)).toInt d.val)
        + val_main_v43 (F := Ideal) x3 r1 e0 (ix3 0 n ⟨384 + (96 * h.val + d.val), by omega⟩) * Ideal.sin (Trig.ang (x4 (ix2 0 n)).toInt d.val) := by
  rw [val_main_v94_apply, val_main_v91_apply, val_main_v93_apply, val_main_v90_apply, val_main_v92_apply, v83_at, v84_at]
  have h1 : idx_main_v90 (ix4 0 n h d) = ix4 0 n 0 d := funext fun a => Fin.ext (by
    match a with
    | ⟨0, _⟩ => rfl
    | ⟨1, _⟩ => rfl
    | ⟨2, _⟩ => rfl
    | ⟨3, _⟩ => rfl)
  have h2 : idx_main_v92 (ix4 0 n h d) = ix4 0 n 0 d := funext fun a => Fin.ext (by
    match a with
    | ⟨0, _⟩ => rfl
    | ⟨1, _⟩ => rfl
    | ⟨2, _⟩ => rfl
    | ⟨3, _⟩ => rfl)
  rw [h1, h2, v62_at, v64_at]
  rfl

/-- The rescaled products are the projections of the arguments the operations are given, -/
theorem y_at (A : Spec.Args) (hr : ∀ n f, r1 (ix2 n f) = ∑ k, Spec.code A n k * A.w k f) (he : ∀ n, e0 (ix3 0 n 0) = Spec.scale A n)
    (hx : ∀ f, x3 (ix1 f) = A.ws f) (n : Fin 8192) (f : Fin 1152) :
    val_main_v43 (F := Ideal) x3 r1 e0 (ix3 0 n f) = Spec.y A f.val n := by
  rw [v43_at, hr, he, hx]
  unfold Spec.y
  rw [dif_pos f.isLt]
  congr 2
  exact Finset.sum_congr rfl fun k _ => mul_comm _ _

theorem y_at' (A : Spec.Args) (hr : ∀ n f, r1 (ix2 n f) = ∑ k, Spec.code A n k * A.w k f) (he : ∀ n, e0 (ix3 0 n 0) = Spec.scale A n)
    (hx : ∀ f, x3 (ix1 f) = A.ws f) (n : Fin 8192) (f g : ℕ) (hf : f < 1152) (hg : f = g) :
    val_main_v43 (F := Ideal) x3 r1 e0 (ix3 0 n ⟨f, hf⟩) = Spec.y A g n := by
  subst hg
  exact y_at x3 r1 e0 A hr he hx n ⟨f, hf⟩

/-- so the rotated queries are the specified ones. -/
theorem v80_eq (A : Spec.Args) (hr : ∀ n f, r1 (ix2 n f) = ∑ k, Spec.code A n k * A.w k f) (he : ∀ n, e0 (ix3 0 n 0) = Spec.scale A n)
    (hx : ∀ f, x3 (ix1 f) = A.ws f) (hp : ∀ n, x4 (ix2 0 n) = A.p n) :
    val_main_v80 (F := Ideal) x3 x4 r1 e0 = Spec.queries A := by
  funext i
  obtain ⟨z, n, h, d, rfl⟩ : ∃ z n h d, i = ix4 z n h d := ⟨i 0, i 1, i 2, i 3, funext fun a => by
    match a with
    | ⟨0, _⟩ => rfl
    | ⟨1, _⟩ => rfl
    | ⟨2, _⟩ => rfl
    | ⟨3, _⟩ => rfl⟩
  obtain rfl : z = 0 := Subsingleton.elim _ _
  show val_main_v79 (F := Ideal) x3 x4 r1 e0 (ix4 0 n h d) = Spec.rot A 0 (96 * h.val + d.val) n
  unfold val_main_v79
  rw [cat_at]
  have hd := d.isLt
  unfold Spec.rot
  have hm : (96 * h.val + d.val) % 96 = d.val := by omega
  rw [hm]
  by_cases hc : d.val < 48
  · rw [dif_pos hc, if_pos hc, v73_at, hp]
    rw [y_at' x3 r1 e0 A hr he hx n _ (0 + (96 * h.val + d.val)) _ rfl, y_at' x3 r1 e0 A hr he hx n _ (0 + (96 * h.val + d.val) + 48) _ (by show 0 + (96 * h.val + (48 + d.val)) = _; omega)]
  · rw [dif_neg hc, if_neg hc, v78_at, hp]
    rw [y_at' x3 r1 e0 A hr he hx n _ (0 + (96 * h.val + d.val)) _ (by show 0 + (96 * h.val + (48 + (d.val - 48))) = _; omega), y_at' x3 r1 e0 A hr he hx n _ (0 + (96 * h.val + d.val) - 48) _ (by show 0 + (96 * h.val + (d.val - 48)) = _; omega)]

/-- so the rotated keys are the specified ones. -/
theorem v96_eq (A : Spec.Args) (hr : ∀ n f, r1 (ix2 n f) = ∑ k, Spec.code A n k * A.w k f) (he : ∀ n, e0 (ix3 0 n 0) = Spec.scale A n)
    (hx : ∀ f, x3 (ix1 f) = A.ws f) (hp : ∀ n, x4 (ix2 0 n) = A.p n) :
    val_main_v96 (F := Ideal) x3 x4 r1 e0 = Spec.keys A := by
  funext i
  obtain ⟨z, n, h, d, rfl⟩ : ∃ z n h d, i = ix4 z n h d := ⟨i 0, i 1, i 2, i 3, funext fun a => by
    match a with
    | ⟨0, _⟩ => rfl
    | ⟨1, _⟩ => rfl
    | ⟨2, _⟩ => rfl
    | ⟨3, _⟩ => rfl⟩
  obtain rfl : z = 0 := Subsingleton.elim _ _
  show val_main_v95 (F := Ideal) x3 x4 r1 e0 (ix4 0 n h d) = Spec.rot A 384 (96 * h.val + d.val) n
  unfold val_main_v95
  rw [cat_at]
  have hd := d.isLt
  unfold Spec.rot
  have hm : (96 * h.val + d.val) % 96 = d.val := by omega
  rw [hm]
  by_cases hc : d.val < 48
  · rw [dif_pos hc, if_pos hc, v89_at, hp]
    rw [y_at' x3 r1 e0 A hr he hx n _ (384 + (96 * h.val + d.val)) _ rfl, y_at' x3 r1 e0 A hr he hx n _ (384 + (96 * h.val + d.val) + 48) _ (by show 384 + (96 * h.val + (48 + d.val)) = _; omega)]
  · rw [dif_neg hc, if_neg hc, v94_at, hp]
    rw [y_at' x3 r1 e0 A hr he hx n _ (384 + (96 * h.val + d.val)) _ (by show 384 + (96 * h.val + (48 + (d.val - 48))) = _; omega), y_at' x3 r1 e0 A hr he hx n _ (384 + (96 * h.val + d.val) - 48) _ (by show 384 + (96 * h.val + (d.val - 48)) = _; omega)]

/-- The values. -/
theorem v99_eq (A : Spec.Args) (hr : ∀ n f, r1 (ix2 n f) = ∑ k, Spec.code A n k * A.w k f) (he : ∀ n, e0 (ix3 0 n 0) = Spec.scale A n)
    (hx : ∀ f, x3 (ix1 f) = A.ws f) : val_main_v99 (F := Ideal) x3 r1 e0 = Spec.values A := by
  funext i
  obtain ⟨z, n, h, d, rfl⟩ : ∃ z n h d, i = ix4 z n h d := ⟨i 0, i 1, i 2, i 3, funext fun a => by
    match a with
    | ⟨0, _⟩ => rfl
    | ⟨1, _⟩ => rfl
    | ⟨2, _⟩ => rfl
    | ⟨3, _⟩ => rfl⟩
  obtain rfl : z = 0 := Subsingleton.elim _ _
  show val_main_v98 (F := Ideal) x3 r1 e0 (ix4 0 n h d) = Spec.y A (768 + (96 * h.val + d.val)) n
  rw [v98_at]
  exact y_at' x3 r1 e0 A hr he hx n _ _ _ rfl

end Cert.ReferenceIdeal.Tail
end
-- ==== Proof.RefRun.lean ====
/- The reference's run: its five results are the specified functions of its arguments. -/
module

public import proofs.«01_k».proof.Proof.RefTail
public import proofs.«01_k».proof.Proof.Gen.ReferenceIdeal.Run

@[expose] public section

set_option maxRecDepth 16384

noncomputable section

namespace Cert.ReferenceIdeal.Host

open Cert.ReferenceIdeal Cert.ReferenceIdeal.Gen Cert.ReferenceIdeal.Read Cert.KernelIdeal
open Idealize.ShloMosaic Idealize.ShloMosaic.TcCoe Idealize.ShloMosaic.Tactic Idealize.SL.Sem
open scoped BigOperators

variable (m : (ℓ : Loc nD τ sig) → Buf (Elt Ideal) ℓ) (c : Dev nD)

/-- The products at the region's exit, by token and feature. -/
theorem exit_acc (hA : (args m c).Ok) (n : Fin 8192) (f : Fin 1152) :
    (Value.exitV m c (Proc.devRef .tc main_v36_1) : FVec Ideal S8192x1152 .f32) (ix2 n f) = ∑ k, Spec.code (args m c) n k * (args m c).w k f :=
  congrFun ((Value.exit_main_v36_1 m c).trans (final4 m c hA)) (ix2 n f)

/-- The scales at the region's exit. -/
theorem exit_scale (hA : (args m c).Ok) (n : Fin 8192) :
    (Value.exitV m c (Proc.devRef .tc main_v30) : FVec Ideal S1x8192x1 .f32) (ix3 0 n 0) = Spec.scale (args m c) n :=
  (congrFun (V_v30 m c) (ix3 0 n 0)).trans (scale_apply m c hA n)

/-- The weights' scales at the region's exit. -/
theorem exit_ws (f : Fin 1152) : (Value.exitV m c (Proc.devRef .tc main_arg3) : FVec Ideal S1152 .f32) (ix1 f) = (args m c).ws f :=
  congrFun (Value.exit_main_arg3 m c) (ix1 f)

/-- The positions at the region's exit. -/
theorem exit_pos (n : Fin 8192) : (Value.exitV m c (Proc.devRef .tc main_arg4) : IVec S1x8192 32) (ix2 0 n) = (args m c).p n :=
  congrFun (Value.exit_main_arg4 m c) (ix2 0 n)

theorem res_q (hA : (args m c).Ok) : val_main_v80 (F := Ideal) (Value.exitV m c (Proc.devRef .tc main_arg3)) (Value.exitV m c (Proc.devRef .tc main_arg4))
    (Value.exitV m c (Proc.devRef .tc main_v36_1)) (Value.exitV m c (Proc.devRef .tc main_v30)) = Spec.queries (args m c) :=
  Tail.v80_eq _ _ _ _ (args m c) (exit_acc m c hA) (exit_scale m c hA) (exit_ws m c) (exit_pos m c)

theorem res_k (hA : (args m c).Ok) : val_main_v96 (F := Ideal) (Value.exitV m c (Proc.devRef .tc main_arg3)) (Value.exitV m c (Proc.devRef .tc main_arg4))
    (Value.exitV m c (Proc.devRef .tc main_v36_1)) (Value.exitV m c (Proc.devRef .tc main_v30)) = Spec.keys (args m c) :=
  Tail.v96_eq _ _ _ _ (args m c) (exit_acc m c hA) (exit_scale m c hA) (exit_ws m c) (exit_pos m c)

theorem res_v (hA : (args m c).Ok) : val_main_v99 (F := Ideal) (Value.exitV m c (Proc.devRef .tc main_arg3))
    (Value.exitV m c (Proc.devRef .tc main_v36_1)) (Value.exitV m c (Proc.devRef .tc main_v30)) = Spec.values (args m c) :=
  Tail.v99_eq _ _ _ (args m c) (exit_acc m c hA) (exit_scale m c hA) (exit_ws m c)

theorem res_c (hA : (args m c).Ok) : val_main_v37 (F := Ideal) (Value.exitV m c (Proc.devRef .tc main_v36_0)) = Spec.codes (args m c) := by
  rw [(Value.exit_main_v36_0 m c).trans (final3 m c hA)]
  funext i
  obtain ⟨z, n, k, rfl⟩ : ∃ z n k, i = ix3 z n k := ⟨i 0, i 1, i 2, funext fun a => by
    match a with
    | ⟨0, _⟩ => rfl
    | ⟨1, _⟩ => rfl
    | ⟨2, _⟩ => rfl⟩
  obtain rfl : z = 0 := Subsingleton.elim _ _
  rw [val_main_v37_apply]
  have h1 : idx_main_v37 (ix3 0 n k) = ix2 n k := funext fun a => Fin.ext (by
    match a with
    | ⟨0, _⟩ => show ((0 * 8192 + n.val) * 3072 + k.val) / 3072 = n.val; omega
    | ⟨1, _⟩ => show ((0 * 8192 + n.val) * 3072 + k.val) % 3072 = k.val; omega)
  rw [h1]
  rfl

theorem res_s (hA : (args m c).Ok) : pS (eM m c) = Spec.scales (args m c) := by
  funext i
  obtain ⟨z, n, u, rfl⟩ : ∃ z n u, i = ix3 z n u := ⟨i 0, i 1, i 2, funext fun a => by
    match a with
    | ⟨0, _⟩ => rfl
    | ⟨1, _⟩ => rfl
    | ⟨2, _⟩ => rfl⟩
  obtain rfl : z = 0 := Subsingleton.elim _ _
  obtain rfl : u = 0 := Subsingleton.elim _ _
  exact scale_apply m c hA n

/-- The reference's run: it ends, leaving the five results at the functions of the arguments the specification names, the
    arguments as launched. -/
theorem run (ρ : Dev nD → PrngReg) (hA : ∀ c, (args m c).Ok) : θ_run defs (onTc (τ := τ) (main (F := Ideal))) ⟨m, fun _ => 0, ρ⟩ fun r => ∀ c : Dev nD,
      r.2.mem ((c.tc : Thread nD τ).loc main_v80) = Spec.queries (args m c)
      ∧ r.2.mem ((c.tc : Thread nD τ).loc main_v96) = Spec.keys (args m c)
      ∧ r.2.mem ((c.tc : Thread nD τ).loc main_v99) = Spec.values (args m c)
      ∧ r.2.mem ((c.tc : Thread nD τ).loc main_v37) = Spec.codes (args m c)
      ∧ r.2.mem ((c.tc : Thread nD τ).loc main_v30) = Spec.scales (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (h c).1.trans ((val_main_v80_eq (Value.exitV m c)).trans (res_q m c (hA c))),
      (h c).2.1.trans ((val_main_v96_eq (Value.exitV m c)).trans (res_k m c (hA c))),
      (h c).2.2.1.trans ((val_main_v99_eq (Value.exitV m c)).trans (res_v m c (hA c))),
      (h c).2.2.2.1.trans ((val_main_v37_eq (Value.exitV m c)).trans (res_c m c (hA c))),
      (h c).2.2.2.2.1.trans (((Value.exit_main_v30 m c).symm.trans (V_v30 m c)).trans (res_s m c (hA c))),
      (h c).2.2.2.2.2⟩) (Value.run m ρ)

end Cert.ReferenceIdeal.Host
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_gain_and_positions_below_16384
public import proofs.«01_k».proof.Proof.Gen.ReferenceIdeal.Run
public import proofs.«01_k».proof.Proof.Gen.ReferenceIdeal.Read
public import proofs.«01_k».proof.Proof.Pre
public import proofs.«01_k».proof.Proof.Tail
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- Memories that agree on the arguments give both programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Host.args m' c = Cert.KernelIdeal.Region.args m c := by
  unfold Cert.ReferenceIdeal.Host.args Cert.KernelIdeal.Region.args
  congr 1
  · exact funext fun n => funext fun k => congrFun h0 _
  · exact funext fun k => congrFun h1 _
  · exact funext fun k => funext fun f => congrFun h2 _
  · exact funext fun f => congrFun h3 _
  · exact funext fun n => congrFun h4 _

/-- The kernel and the reference, on extended reals: both end, with the same five results. -/
theorem algebraic : Cert.algebraic_KernelIdeal_ReferenceIdeal_pre_finite_gain_and_positions_below_16384 := by
  intro m g m' g' hpre hagree
  have hA := Cert.Pre_finite_gain_and_positions_below_16384.ok m hpre
  have e : ∀ c, Cert.ReferenceIdeal.Host.args m' c = Cert.KernelIdeal.Region.args m c := fun c =>
    args_eq m m' c (hagree c).1 (hagree c).2.1 (hagree c).2.2.1 (hagree c).2.2.2.1 (hagree c).2.2.2.2
  have hB : ∀ c, (Cert.ReferenceIdeal.Host.args m' c).Ok := fun c => (e c).symm ▸ hA c
  refine ⟨fun c => Cert.KernelIdeal.Spec.queries (Cert.KernelIdeal.Region.args m c), fun c => Cert.KernelIdeal.Spec.keys (Cert.KernelIdeal.Region.args m c),
    fun c => Cert.KernelIdeal.Spec.values (Cert.KernelIdeal.Region.args m c), fun c => Cert.KernelIdeal.Spec.codes (Cert.KernelIdeal.Region.args m c),
    fun c => Cert.KernelIdeal.Spec.scales (Cert.KernelIdeal.Region.args m c), Cert.KernelIdeal.Final.run m g hA, ?_⟩
  refine (θ_run _ _ _).mono (fun _ h c => ?_) (Cert.ReferenceIdeal.Host.run m' g' hB)
  exact ⟨(h c).1.trans (congrArg _ (e c)), (h c).2.1.trans (congrArg _ (e c)), (h c).2.2.1.trans (congrArg _ (e c)),
    (h c).2.2.2.1.trans (congrArg _ (e c)), (h c).2.2.2.2.1.trans (congrArg _ (e c)), (h c).2.2.2.2.2⟩

/-- Every claim of the certificate: each program terminates without a fault, leaves its arguments unchanged and
    every semaphore at zero; the ideal kernel is the kernel's own text; the kernel and the reference agree on all five results. -/
theorem claim : Cert.Claim := ⟨Cert.Kernel.Gen.facts, Cert.KernelIdeal.Gen.facts, Cert.ReferenceIdeal.Gen.facts, Cert.Pre_finite_gain_and_positions_below_16384.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
